-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_nearest [hPre_one_nearest : Cert.Pre_one_nearest.Facts] (m : (ℓ : Loc Cert.KernelIdeal.nD Cert.KernelIdeal.τ Cert.KernelIdeal.sig) → Buf (Elt Ideal) ℓ) : Prop :=
  ∀ c : Dev Cert.KernelIdeal.nD,
    (Cert.Pre_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_nearest [hPre_one_nearest : Cert.Pre_one_nearest.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_one_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_one_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_one_nearest [hKernelIdeal : Cert.KernelIdeal.Facts] [hPre_one_nearest : Cert.Pre_one_nearest.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_nearest m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_one_nearest [hReferenceIdeal : Cert.ReferenceIdeal.Facts] [hPre_one_nearest : Cert.Pre_one_nearest.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_nearest m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_one_nearest [hKernelIdeal : Cert.KernelIdeal.Facts] [hReferenceIdeal : Cert.ReferenceIdeal.Facts] [hPre_one_nearest : Cert.Pre_one_nearest.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_nearest m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_KernelIdeal_ReferenceIdeal_on_untied_pre_finite [hKernelIdeal : Cert.KernelIdeal.Facts] [hReferenceIdeal : Cert.ReferenceIdeal.Facts] [hPre_finite : Cert.Pre_finite.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![32, 1, 4096]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v2_0) i = v0 c i)
          ∧ (∀ i : (⟨2, ![1024, 128]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.KernelIdeal.nD Cert.KernelIdeal.τ).loc Cert.KernelIdeal.main_v2_1) i = v1 c i)
          ∧ (∀ i : (⟨2, ![1024, 128]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.KernelIdeal.nD Cert.KernelIdeal.τ).loc Cert.KernelIdeal.main_v2_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![32, 1, 4096]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v52) i = v0 c i)
          ∧ (∀ i : (⟨2, ![1024, 128]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.ReferenceIdeal.nD Cert.ReferenceIdeal.τ).loc Cert.ReferenceIdeal.main_v45) i = v1 c i)
          ∧ (∀ i : (⟨2, ![1024, 128]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.ReferenceIdeal.nD Cert.ReferenceIdeal.τ).loc Cert.ReferenceIdeal.main_v51) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_one_nearest : Cert.Pre_one_nearest.Facts) (hPre_finite : Cert.Pre_finite.Facts) (hOn_untied : Cert.On_untied.Facts),
    quiescent_Kernel (hKernel := hKernel)
    ∧ quiescent_KernelIdeal (hKernelIdeal := hKernelIdeal)
    ∧ quiescent_KernelIdeal_pre_one_nearest (hKernelIdeal := hKernelIdeal) (hPre_one_nearest := hPre_one_nearest)
    ∧ quiescent_KernelIdeal_pre_finite (hKernelIdeal := hKernelIdeal) (hPre_finite := hPre_finite)
    ∧ quiescent_ReferenceIdeal (hReferenceIdeal := hReferenceIdeal)
    ∧ quiescent_ReferenceIdeal_pre_one_nearest (hReferenceIdeal := hReferenceIdeal) (hPre_one_nearest := hPre_one_nearest)
    ∧ quiescent_ReferenceIdeal_pre_finite (hReferenceIdeal := hReferenceIdeal) (hPre_finite := hPre_finite)
    ∧ preserves_Kernel_KernelIdeal
    ∧ algebraic_KernelIdeal_ReferenceIdeal_pre_one_nearest (hKernelIdeal := hKernelIdeal) (hReferenceIdeal := hReferenceIdeal) (hPre_one_nearest := hPre_one_nearest)
    ∧ algebraic_KernelIdeal_ReferenceIdeal_on_untied_pre_finite (hKernelIdeal := hKernelIdeal) (hReferenceIdeal := hReferenceIdeal) (hPre_finite := hPre_finite) (hOn_untied := hOn_untied)
-- ==== On_untied.lean ====
abbrev S4x16x2048x128 : Shape := ⟨4, ![4, 16, 2048, 128]⟩
abbrev S1024x128 : Shape := ⟨2, ![1024, 128]⟩
abbrev S131072x128 : Shape := ⟨2, ![131072, 128]⟩
abbrev S_ : Shape := ⟨0, ![]⟩
abbrev S131072 : Shape := ⟨1, ![131072]⟩
abbrev S131072x1 : Shape := ⟨2, ![131072, 1]⟩
abbrev S1024 : Shape := ⟨1, ![1024]⟩
abbrev S1x1024 : Shape := ⟨2, ![1, 1024]⟩
abbrev S131072x1024 : Shape := ⟨2, ![131072, 1024]⟩
abbrev S128x1024 : Shape := ⟨2, ![128, 1024]⟩
abbrev S1024x1 : Shape := ⟨2, ![1024, 1]⟩
abbrev S32x1x4096 : Shape := ⟨3, ![32, 1, 4096]⟩

class Facts : Prop where
  shapeCasts_S4x16x2048x128_S131072x128 : S4x16x2048x128.ShapeCasts S131072x128
  reducesTo_S131072x128_S131072_d1 : S131072x128.ReducesTo [1] S131072
  h_S_ : 0 < S_.numel
  bcast_S131072_S131072x1_0 : S131072.BroadcastsInDim S131072x1 (![0] : Fin 1 → Fin S131072x1.rank)
  reducesTo_S1024x128_S1024_d1 : S1024x128.ReducesTo [1] S1024
  bcast_S1024_S1x1024_1 : S1024.BroadcastsInDim S1x1024 (![1] : Fin 1 → Fin S1x1024.rank)
  bcast_S131072x1_S131072x1024_0_1 : S131072x1.BroadcastsInDim S131072x1024 (![0, 1] : Fin 2 → Fin S131072x1024.rank)
  bcast_S1x1024_S131072x1024_0_1 : S1x1024.BroadcastsInDim S131072x1024 (![0, 1] : Fin 2 → Fin S131072x1024.rank)
  transposes_S1024x128_S128x1024_1_0 : S1024x128.Transposes [1, 0] S128x1024
  bcast_S_S131072x1024 : S_.BroadcastsInDim S131072x1024 (![] : Fin 0 → Fin S131072x1024.rank)
  reducesTo_S131072x1024_S131072_d1 : S131072x1024.ReducesTo [1] S131072
  reducesTo_S131072x1024_S1024_d0 : S131072x1024.ReducesTo [0] S1024
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S_S32x1x4096 : S_.BroadcastsInDim S32x1x4096 (![] : Fin 0 → Fin S32x1x4096.rank)
  dot_S131072x128_S128x1024_S131072x1024_1_0_0_1_n_n_wf : DotDims.WF S131072x128 S128x1024 S131072x1024 [1] [0] [0] [1] [] []

variable [Facts]

variable {F : FTy → Type} [FloatOps F]
def dot_S131072x128_S128x1024_S131072x1024_1_0_0_1_n_n : DotDims S131072x128 S128x1024 S131072x1024 where
  lhsContracting := [1]
  rhsContracting := [0]
  lhsNonContracting := [0]
  rhsNonContracting := [1]
  lhsBatch := []
  rhsBatch := []
  wf := dot_S131072x128_S128x1024_S131072x1024_1_0_0_1_n_n_wf
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_argmin {F : FTy → Type} [FloatOps F] (arg0 : FVec F S131072x1024 .f32) : IVec S131072 32 :=
  let v0 : IVec S131072x1024 32 := iotaInDim S131072x1024 32 1
  let cst : FVec F S_ .f32 := constant S_ .f32 0x7F800000#32
  let c : IVec S_ 32 := constantI S_ 32 0#32
  let v1_0 : FVec F S131072 .f32 := (fun x y u v j => (Host.argReduce reducer_argmin_f32_i32 x y u v reducesTo_S131072x1024_S131072_d1 h_S_ j).1) arg0 v0 cst c
  let v1_1 : IVec S131072 32 := (fun x y u v j => (Host.argReduce reducer_argmin_f32_i32 x y u v reducesTo_S131072x1024_S131072_d1 h_S_ j).2) arg0 v0 cst c
  v1_1

def fn_part1 {F : FTy → Type} [FloatOps F] (main_v17 : FVec F S131072x1024 .f32) (main_v18 : FVec F S131072 .f32) : IVec S32x1x4096 1 × IVec S1024x128 1 × IVec S1024x128 1 :=
  let main_v19 : FVec F S131072x1 .f32 := broadcastInDim S131072x1 ![0] bcast_S131072_S131072x1_0 main_v18
  let main_v20 : IVec S131072 32 := fn_argmin (F := F) main_v17
  let main_v21 : IVec S131072x1024 32 := iotaInDim S131072x1024 32 1
  let main_v22 : FVec F S131072x1024 .f32 := broadcastInDim S131072x1024 ![0, 1] bcast_S131072x1_S131072x1024_0_1 main_v19
  let main_v23 : IVec S131072x1024 1 := cmpf .une main_v17 main_v22
  let main_v24 : IVec S131072x1 32 := broadcastInDim S131072x1 ![0] bcast_S131072_S131072x1_0 main_v20
  let main_v25 : IVec S131072x1024 32 := broadcastInDim S131072x1024 ![0, 1] bcast_S131072x1_S131072x1024_0_1 main_v24
  let main_v26 : IVec S131072x1024 1 := cmpi .eq main_v21 main_v25
  let main_v27 : IVec S131072x1024 1 := ori main_v23 main_v26
  let main_c : IVec S_ 1 := constantI S_ 1 1#1
  let main_v28 : IVec S1024 1 := (fun x v => Host.reduce IntOp.andi x v reducesTo_S131072x1024_S1024_d0 h_S_) main_v27 main_c
  let main_v29 : IVec S1024x1 1 := broadcastInDim S1024x1 ![0] bcast_S1024_S1024x1_0 main_v28
  let main_v30 : IVec S1024x128 1 := broadcastInDim S1024x128 ![0, 1] bcast_S1024x1_S1024x128_0_1 main_v29
  let main_c_4 : IVec S_ 1 := constantI S_ 1 1#1
  let main_v31 : IVec S32x1x4096 1 := broadcastInDim S32x1x4096 ![] bcast_S_S32x1x4096 main_c_4
  (main_v31, main_v30, main_v30)

def fn {F : FTy → Type} [FloatOps F] (main_arg0 : FVec F S4x16x2048x128 .f32) (main_arg1 : FVec F S4x16x2048x128 .f32) (main_arg2 : FVec F S1024x128 .f32) (main_arg3 : FVec F S1024x128 .f32) : IVec S32x1x4096 1 × IVec S1024x128 1 × IVec S1024x128 1 :=
  let main_v0 : FVec F S131072x128 .f32 := shapeCast S131072x128 main_arg0 shapeCasts_S4x16x2048x128_S131072x128
  let main_v1 : FVec F S131072x128 .f32 := mulf main_v0 main_v0
  let main_cst : FVec F S_ .f32 := constant S_ .f32 0x00000000#32
  let main_v2 : FVec F S131072 .f32 := (fun x v => Host.reduceAdd x v reducesTo_S131072x128_S131072_d1 h_S_) main_v1 main_cst
  let main_v3 : FVec F S131072x1 .f32 := broadcastInDim S131072x1 ![0] bcast_S131072_S131072x1_0 main_v2
  let main_v4 : FVec F S1024x128 .f32 := mulf main_arg2 main_arg2
  let main_cst_0 : FVec F S_ .f32 := constant S_ .f32 0x00000000#32
  let main_v5 : FVec F S1024 .f32 := (fun x v => Host.reduceAdd x v reducesTo_S1024x128_S1024_d1 h_S_) main_v4 main_cst_0
  let main_v6 : FVec F S1x1024 .f32 := broadcastInDim S1x1024 ![1] bcast_S1024_S1x1024_1 main_v5
  let main_v7 : FVec F S131072x1024 .f32 := broadcastInDim S131072x1024 ![0, 1] bcast_S131072x1_S131072x1024_0_1 main_v3
  let main_v8 : FVec F S131072x1024 .f32 := broadcastInDim S131072x1024 ![0, 1] bcast_S1x1024_S131072x1024_0_1 main_v6
  let main_v9 : FVec F S131072x1024 .f32 := addf main_v7 main_v8
  let main_v10 : FVec F S128x1024 .f32 := (transpose S128x1024 [1, 0] · transposes_S1024x128_S128x1024_1_0) main_arg2
  let main_v11 : FVec F S131072x1024 .f32 := (fun l r => Host.dotGeneral dot_S131072x128_S128x1024_S131072x1024_1_0_0_1_n_n none l r) main_v0 main_v10
  let main_cst_1 : FVec F S_ .f32 := constant S_ .f32 0x40000000#32
  let main_v12 : FVec F S131072x1024 .f32 := broadcastInDim S131072x1024 ![] bcast_S_S131072x1024 main_cst_1
  let main_v13 : FVec F S131072x1024 .f32 := mulf main_v12 main_v11
  let main_v14 : FVec F S131072x1024 .f32 := subf main_v9 main_v13
  let main_cst_2 : FVec F S_ .f32 := constant S_ .f32 0x00000000#32
  let main_v15 : FVec F S131072x1024 .f32 := broadcastInDim S131072x1024 ![] bcast_S_S131072x1024 main_cst_2
  let main_v16 : FVec F S131072x1024 .f32 := maximumf main_v14 main_v15
  let main_v17 : FVec F S131072x1024 .f32 := Host.sqrt main_v16
  let main_cst_3 : FVec F S_ .f32 := constant S_ .f32 0x7F800000#32
  let main_v18 : FVec F S131072 .f32 := (fun x v => Host.reduce FloatOps.minimumf x v reducesTo_S131072x1024_S131072_d1 h_S_) main_v17 main_cst_3
  fn_part1 (F := F) main_v17 main_v18
-- ==== Pre_finite.lean ====
abbrev S4x16x2048x128 : Shape := ⟨4, ![4, 16, 2048, 128]⟩
abbrev S1024x128 : Shape := ⟨2, ![1024, 128]⟩
abbrev S_ : Shape := ⟨0, ![]⟩

class Facts : Prop where
  bcast_S_S4x16x2048x128 : S_.BroadcastsInDim S4x16x2048x128 (![] : Fin 0 → Fin S4x16x2048x128.rank)
  bcast_S_S1024x128 : S_.BroadcastsInDim S1024x128 (![] : Fin 0 → Fin S1024x128.rank)

variable [Facts]

def fn {F : FTy → Type} [FloatOps F] (main_arg0 : FVec F S4x16x2048x128 .f32) (main_arg1 : FVec F S4x16x2048x128 .f32) (main_arg2 : FVec F S1024x128 .f32) (main_arg3 : FVec F S1024x128 .f32) : IVec S4x16x2048x128 1 × IVec S1024x128 1 :=
  let main_v0 : FVec F S4x16x2048x128 .f32 := Host.absf main_arg0
  let main_cst : FVec F S_ .f32 := constant S_ .f32 0x7F800000#32
  let main_v1 : FVec F S4x16x2048x128 .f32 := broadcastInDim S4x16x2048x128 ![] bcast_S_S4x16x2048x128 main_cst
  let main_v2 : IVec S4x16x2048x128 1 := cmpf .olt main_v0 main_v1
  let main_v3 : FVec F S1024x128 .f32 := Host.absf main_arg2
  let main_cst_0 : FVec F S_ .f32 := constant S_ .f32 0x7F800000#32
  let main_v4 : FVec F S1024x128 .f32 := broadcastInDim S1024x128 ![] bcast_S_S1024x128 main_cst_0
  let main_v5 : IVec S1024x128 1 := cmpf .olt main_v3 main_v4
  (main_v2, main_v5)
-- ==== Pre_one_nearest.lean ====
abbrev S4x16x2048x128 : Shape := ⟨4, ![4, 16, 2048, 128]⟩
abbrev S1024x128 : Shape := ⟨2, ![1024, 128]⟩
abbrev S131072x128 : Shape := ⟨2, ![131072, 128]⟩
abbrev S_ : Shape := ⟨0, ![]⟩
abbrev S131072 : Shape := ⟨1, ![131072]⟩
abbrev S131072x1 : Shape := ⟨2, ![131072, 1]⟩
abbrev S1024 : Shape := ⟨1, ![1024]⟩
abbrev S1x1024 : Shape := ⟨2, ![1, 1024]⟩
abbrev S131072x1024 : Shape := ⟨2, ![131072, 1024]⟩
abbrev S128x1024 : Shape := ⟨2, ![128, 1024]⟩

class Facts : Prop where
  shapeCasts_S4x16x2048x128_S131072x128 : S4x16x2048x128.ShapeCasts S131072x128
  reducesTo_S131072x128_S131072_d1 : S131072x128.ReducesTo [1] S131072
  h_S_ : 0 < S_.numel
  bcast_S131072_S131072x1_0 : S131072.BroadcastsInDim S131072x1 (![0] : Fin 1 → Fin S131072x1.rank)
  reducesTo_S1024x128_S1024_d1 : S1024x128.ReducesTo [1] S1024
  bcast_S1024_S1x1024_1 : S1024.BroadcastsInDim S1x1024 (![1] : Fin 1 → Fin S1x1024.rank)
  bcast_S131072x1_S131072x1024_0_1 : S131072x1.BroadcastsInDim S131072x1024 (![0, 1] : Fin 2 → Fin S131072x1024.rank)
  bcast_S1x1024_S131072x1024_0_1 : S1x1024.BroadcastsInDim S131072x1024 (![0, 1] : Fin 2 → Fin S131072x1024.rank)
  transposes_S1024x128_S128x1024_1_0 : S1024x128.Transposes [1, 0] S128x1024
  bcast_S_S131072x1024 : S_.BroadcastsInDim S131072x1024 (![] : Fin 0 → Fin S131072x1024.rank)
  reducesTo_S131072x1024_S131072_d1 : S131072x1024.ReducesTo [1] S131072
  bcast_S_S4x16x2048x128 : S_.BroadcastsInDim S4x16x2048x128 (![] : Fin 0 → Fin S4x16x2048x128.rank)
  bcast_S_S1024x128 : S_.BroadcastsInDim S1024x128 (![] : Fin 0 → Fin S1024x128.rank)
  bcast_S_S131072 : S_.BroadcastsInDim S131072 (![] : Fin 0 → Fin S131072.rank)
  dot_S131072x128_S128x1024_S131072x1024_1_0_0_1_n_n_wf : DotDims.WF S131072x128 S128x1024 S131072x1024 [1] [0] [0] [1] [] []

variable [Facts]

def dot_S131072x128_S128x1024_S131072x1024_1_0_0_1_n_n : DotDims S131072x128 S128x1024 S131072x1024 where
  lhsContracting := [1]
  rhsContracting := [0]
  lhsNonContracting := [0]
  rhsNonContracting := [1]
  lhsBatch := []
  rhsBatch := []
  wf := dot_S131072x128_S128x1024_S131072x1024_1_0_0_1_n_n_wf
def fn_part1 {F : FTy → Type} [FloatOps F] (main_arg0 : FVec F S4x16x2048x128 .f32) (main_arg2 : FVec F S1024x128 .f32) (main_v17 : FVec F S131072x1024 .f32) (main_v18 : FVec F S131072 .f32) : IVec S4x16x2048x128 1 × IVec S1024x128 1 × IVec S131072 1 :=
  let main_v19 : FVec F S131072x1 .f32 := broadcastInDim S131072x1 ![0] bcast_S131072_S131072x1_0 main_v18
  let main_v20 : FVec F S131072x1024 .f32 := broadcastInDim S131072x1024 ![0, 1] bcast_S131072x1_S131072x1024_0_1 main_v19
  let main_v21 : IVec S131072x1024 1 := cmpf .oeq main_v17 main_v20
  let main_v22 : FVec F S131072x1024 .f32 := uitofp .f32 main_v21
  let main_cst_4 : FVec F S_ .f32 := constant S_ .f32 0x00000000#32
  let main_v23 : FVec F S131072 .f32 := (fun x v => Host.reduceAdd x v reducesTo_S131072x1024_S131072_d1 h_S_) main_v22 main_cst_4
  let main_v24 : FVec F S4x16x2048x128 .f32 := Host.absf main_arg0
  let main_cst_5 : FVec F S_ .f32 := constant S_ .f32 0x7F800000#32
  let main_v25 : FVec F S4x16x2048x128 .f32 := broadcastInDim S4x16x2048x128 ![] bcast_S_S4x16x2048x128 main_cst_5
  let main_v26 : IVec S4x16x2048x128 1 := cmpf .olt main_v24 main_v25
  let main_v27 : FVec F S1024x128 .f32 := Host.absf main_arg2
  let main_cst_6 : FVec F S_ .f32 := constant S_ .f32 0x7F800000#32
  let main_v28 : FVec F S1024x128 .f32 := broadcastInDim S1024x128 ![] bcast_S_S1024x128 main_cst_6
  let main_v29 : IVec S1024x128 1 := cmpf .olt main_v27 main_v28
  let main_cst_7 : FVec F S_ .f32 := constant S_ .f32 0x3F800000#32
  let main_v30 : FVec F S131072 .f32 := broadcastInDim S131072 ![] bcast_S_S131072 main_cst_7
  let main_v31 : IVec S131072 1 := cmpf .oeq main_v23 main_v30
  (main_v26, main_v29, main_v31)

def fn {F : FTy → Type} [FloatOps F] (main_arg0 : FVec F S4x16x2048x128 .f32) (main_arg1 : FVec F S4x16x2048x128 .f32) (main_arg2 : FVec F S1024x128 .f32) (main_arg3 : FVec F S1024x128 .f32) : IVec S4x16x2048x128 1 × IVec S1024x128 1 × IVec S131072 1 :=
  let main_v0 : FVec F S131072x128 .f32 := shapeCast S131072x128 main_arg0 shapeCasts_S4x16x2048x128_S131072x128
  let main_v1 : FVec F S131072x128 .f32 := mulf main_v0 main_v0
  let main_cst : FVec F S_ .f32 := constant S_ .f32 0x00000000#32
  let main_v2 : FVec F S131072 .f32 := (fun x v => Host.reduceAdd x v reducesTo_S131072x128_S131072_d1 h_S_) main_v1 main_cst
  let main_v3 : FVec F S131072x1 .f32 := broadcastInDim S131072x1 ![0] bcast_S131072_S131072x1_0 main_v2
  let main_v4 : FVec F S1024x128 .f32 := mulf main_arg2 main_arg2
  let main_cst_0 : FVec F S_ .f32 := constant S_ .f32 0x00000000#32
  let main_v5 : FVec F S1024 .f32 := (fun x v => Host.reduceAdd x v reducesTo_S1024x128_S1024_d1 h_S_) main_v4 main_cst_0
  let main_v6 : FVec F S1x1024 .f32 := broadcastInDim S1x1024 ![1] bcast_S1024_S1x1024_1 main_v5
  let main_v7 : FVec F S131072x1024 .f32 := broadcastInDim S131072x1024 ![0, 1] bcast_S131072x1_S131072x1024_0_1 main_v3
  let main_v8 : FVec F S131072x1024 .f32 := broadcastInDim S131072x1024 ![0, 1] bcast_S1x1024_S131072x1024_0_1 main_v6
  let main_v9 : FVec F S131072x1024 .f32 := addf main_v7 main_v8
  let main_v10 : FVec F S128x1024 .f32 := (transpose S128x1024 [1, 0] · transposes_S1024x128_S128x1024_1_0) main_arg2
  let main_v11 : FVec F S131072x1024 .f32 := (fun l r => Host.dotGeneral dot_S131072x128_S128x1024_S131072x1024_1_0_0_1_n_n none l r) main_v0 main_v10
  let main_cst_1 : FVec F S_ .f32 := constant S_ .f32 0x40000000#32
  let main_v12 : FVec F S131072x1024 .f32 := broadcastInDim S131072x1024 ![] bcast_S_S131072x1024 main_cst_1
  let main_v13 : FVec F S131072x1024 .f32 := mulf main_v12 main_v11
  let main_v14 : FVec F S131072x1024 .f32 := subf main_v9 main_v13
  let main_cst_2 : FVec F S_ .f32 := constant S_ .f32 0x00000000#32
  let main_v15 : FVec F S131072x1024 .f32 := broadcastInDim S131072x1024 ![] bcast_S_S131072x1024 main_cst_2
  let main_v16 : FVec F S131072x1024 .f32 := maximumf main_v14 main_v15
  let main_v17 : FVec F S131072x1024 .f32 := Host.sqrt main_v16
  let main_cst_3 : FVec F S_ .f32 := constant S_ .f32 0x7F800000#32
  let main_v18 : FVec F S131072 .f32 := (fun x v => Host.reduce FloatOps.minimumf x v reducesTo_S131072x1024_S131072_d1 h_S_) main_v17 main_cst_3
  fn_part1 (F := F) main_arg0 main_arg2 main_v17 main_v18
-- ==== Kernel.lean ====
abbrev S4x16x2048x128 : Shape := ⟨4, ![4, 16, 2048, 128]⟩
abbrev S1024x128 : Shape := ⟨2, ![1024, 128]⟩
abbrev S131072x128 : Shape := ⟨2, ![131072, 128]⟩
abbrev S32x1x4096 : Shape := ⟨3, ![32, 1, 4096]⟩
abbrev S4096x128 : Shape := ⟨2, ![4096, 128]⟩
abbrev S1x1x4096 : Shape := ⟨3, ![1, 1, 4096]⟩
abbrev S1024x256 : Shape := ⟨2, ![1024, 256]⟩
abbrev S1024x1 : Shape := ⟨2, ![1024, 1]⟩
abbrev S1024 : Shape := ⟨1, ![1024]⟩
abbrev S1024x4096 : Shape := ⟨2, ![1024, 4096]⟩
abbrev S4096 : Shape := ⟨1, ![4096]⟩
abbrev S1x4096 : Shape := ⟨2, ![1, 4096]⟩
abbrev S4096x256 : Shape := ⟨2, ![4096, 256]⟩

abbrev nBuf : Space → Nat
  | .hbm => 9
  | .vmem => 14
  | .smem => 0
  | _ => 0

abbrev bufTy : (tb : Table) → Fin (tcTables nBuf tb) → BufTy
  | .hbm, ⟨0, _⟩ => ⟨S4x16x2048x128, .f32⟩
  | .hbm, ⟨1, _⟩ => ⟨S4x16x2048x128, .f32⟩
  | .hbm, ⟨2, _⟩ => ⟨S1024x128, .f32⟩
  | .hbm, ⟨3, _⟩ => ⟨S1024x128, .f32⟩
  | .hbm, ⟨4, _⟩ => ⟨S131072x128, .f32⟩
  | .hbm, ⟨5, _⟩ => ⟨S131072x128, .f32⟩
  | .hbm, ⟨6, _⟩ => ⟨S32x1x4096, .i32⟩
  | .hbm, ⟨7, _⟩ => ⟨S1024x128, .f32⟩
  | .hbm, ⟨8, _⟩ => ⟨S1024x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1024x128, .f32⟩
  | .local _ .vmem, ⟨5, _⟩ => ⟨S1024x128, .f32⟩
  | .local _ .vmem, ⟨6, _⟩ => ⟨S1x1x4096, .i32⟩
  | .local _ .vmem, ⟨7, _⟩ => ⟨S1x1x4096, .i32⟩
  | .local _ .vmem, ⟨8, _⟩ => ⟨S1024x128, .f32⟩
  | .local _ .vmem, ⟨9, _⟩ => ⟨S1024x128, .f32⟩
  | .local _ .vmem, ⟨10, _⟩ => ⟨S1024x256, .f32⟩
  | .local _ .vmem, ⟨11, _⟩ => ⟨S1024x128, .f32⟩
  | .local _ .vmem, ⟨12, _⟩ => ⟨S1024x1, .f32⟩
  | .local _ .vmem, ⟨13, _⟩ => ⟨S1024x1, .f32⟩
  | _, _ => ⟨S4x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v39 : BitVec 1 := Scalar.cmpi .eq arg0 c31_i32
  let v40 : BitVec 32 := Scalar.extui v39
  let c0_i32_23 : BitVec 32 := 0#32
  let v41 : BitVec 1 := Scalar.cmpi .ne v40 c0_i32_23
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x4096 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4x16x2048x128 : Shape := ⟨4, ![4, 16, 2048, 128]⟩
abbrev S1024x128 : Shape := ⟨2, ![1024, 128]⟩
abbrev S131072x128 : Shape := ⟨2, ![131072, 128]⟩
abbrev S_ : Shape := ⟨0, ![]⟩
abbrev S131072 : Shape := ⟨1, ![131072]⟩
abbrev S131072x1 : Shape := ⟨2, ![131072, 1]⟩
abbrev S1024 : Shape := ⟨1, ![1024]⟩
abbrev S1x1024 : Shape := ⟨2, ![1, 1024]⟩
abbrev S131072x1024 : Shape := ⟨2, ![131072, 1024]⟩
abbrev S128x1024 : Shape := ⟨2, ![128, 1024]⟩
abbrev S1024x1 : Shape := ⟨2, ![1024, 1]⟩
abbrev S32x1x4096 : Shape := ⟨3, ![32, 1, 4096]⟩

abbrev nBuf : Space → Nat
  | .hbm => 77
  | .vmem => 0
  | .smem => 0
  | _ => 0

abbrev bufTy : (tb : Table) → Fin (tcTables nBuf tb) → BufTy
  | .hbm, ⟨0, _⟩ => ⟨S4x16x2048x128, .f32⟩
  | .hbm, ⟨1, _⟩ => ⟨S4x16x2048x128, .f32⟩
  | .hbm, ⟨2, _⟩ => ⟨S1024x128, .f32⟩
  | .hbm, ⟨3, _⟩ => ⟨S1024x128, .f32⟩
  | .hbm, ⟨4, _⟩ => ⟨S131072x128, .f32⟩
  | .hbm, ⟨5, _⟩ => ⟨S131072x128, .f32⟩
  | .hbm, ⟨6, _⟩ => ⟨S131072x128, .f32⟩
  | .hbm, ⟨7, _⟩ => ⟨S_, .f32⟩
  | .hbm, ⟨8, _⟩ => ⟨S131072, .f32⟩
  | .hbm, ⟨9, _⟩ => ⟨S131072x1, .f32⟩
  | .hbm, ⟨10, _⟩ => ⟨S1024x128, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S131072x1024, .f32⟩
  | .hbm, ⟨15, _⟩ => ⟨S131072x1024, .f32⟩
  | .hbm, ⟨16, _⟩ => ⟨S131072x1024, .f32⟩
  | .hbm, ⟨17, _⟩ => ⟨S128x1024, .f32⟩
  | .hbm, ⟨18, _⟩ => ⟨S131072x1024, .f32⟩
  | .hbm, ⟨19, _⟩ => ⟨S_, .f32⟩
  | .hbm, ⟨20, _⟩ => ⟨S131072x1024, .f32⟩
  | .hbm, ⟨21, _⟩ => ⟨S131072x1024, .f32⟩
  | .hbm, ⟨22, _⟩ => ⟨S131072x1024, .f32⟩
  | .hbm, ⟨23, _⟩ => ⟨S_, .f32⟩
  | .hbm, ⟨24, _⟩ => ⟨S131072x1024, .f32⟩
  | .hbm, ⟨25, _⟩ => ⟨S131072x1024, .f32⟩
  | .hbm, ⟨26, _⟩ => ⟨S131072x1024, .f32⟩
  | .hbm, ⟨27, _⟩ => ⟨S131072x1024, .i32⟩
  | .hbm, ⟨28, _⟩ => ⟨S_, .f32⟩
  | .hbm, ⟨29, _⟩ => ⟨S_, .i32⟩
  | .hbm, ⟨30, _⟩ => ⟨S131072, .f32⟩
  | .hbm, ⟨31, _⟩ => ⟨S131072, .i32⟩
  | .hbm, ⟨32, _⟩ => ⟨S_, .f32⟩
  | .hbm, ⟨33, _⟩ => ⟨S131072, .f32⟩
  | .hbm, ⟨34, _⟩ => ⟨S_, .f32⟩
  | .hbm, ⟨35, _⟩ => ⟨S1024, .f32⟩
  | .hbm, ⟨36, _⟩ => ⟨S131072x1, .i32⟩
  | .hbm, ⟨37, _⟩ => ⟨S1024, .f32⟩
  | .hbm, ⟨38, _⟩ => ⟨S_, .f32⟩
  | .hbm, ⟨39, _⟩ => ⟨S1024x128, .f32⟩
  | .hbm, ⟨40, _⟩ => ⟨S131072x1, .i32⟩
  | .hbm, ⟨41, _⟩ => ⟨S1024x128, .f32⟩
  | .hbm, ⟨42, _⟩ => ⟨S_, .f32⟩
  | .hbm, ⟨43, _⟩ => ⟨S1024x128, .f32⟩
  | .hbm, ⟨44, _⟩ => ⟨S131072x1, .i32⟩
  | .hbm, ⟨45, _⟩ => ⟨S1024x128, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S1024x1, .f32⟩
  | .hbm, ⟨50, _⟩ => ⟨S1024x128, .f32⟩
  | .hbm, ⟨51, _⟩ => ⟨S1024x128, .f32⟩
  | .hbm, ⟨52, _⟩ => ⟨S1024x128, .f32⟩
  | .hbm, ⟨53, _⟩ => ⟨S1024x128, .f32⟩
  | .hbm, ⟨54, _⟩ => ⟨S_, .f32⟩
  | .hbm, ⟨55, _⟩ => ⟨S1024, .f32⟩
  | .hbm, ⟨56, _⟩ => ⟨S1024, .i1⟩
  | .hbm, ⟨57, _⟩ => ⟨S1024x1, .i1⟩
  | .hbm, ⟨58, _⟩ => ⟨S_, .f32⟩
  | .hbm, ⟨59, _⟩ => ⟨S1024x128, .f32⟩
  | .hbm, ⟨60, _⟩ => ⟨S1024x128, .f32⟩
  | .hbm, ⟨61, _⟩ => ⟨S_, .f32⟩
  | .hbm, ⟨62, _⟩ => ⟨S1024x128, .f32⟩
  | .hbm, ⟨63, _⟩ => ⟨S1024x128, .f32⟩
  | .hbm, ⟨64, _⟩ => ⟨S1024x128, .f32⟩
  | .hbm, ⟨65, _⟩ => ⟨S1024x128, .i1⟩
  | .hbm, ⟨66, _⟩ => ⟨S1024x128, .f32⟩
  | .hbm, ⟨67, _⟩ => ⟨S_, .f32⟩
  | .hbm, ⟨68, _⟩ => ⟨S1024x128, .f32⟩
  | .hbm, ⟨69, _⟩ => ⟨S1024x128, .f32⟩
  | .hbm, ⟨70, _⟩ => ⟨S_, .f32⟩
  | .hbm, ⟨71, _⟩ => ⟨S1024x128, .f32⟩
  | .hbm, ⟨72, _⟩ => ⟨S1024x128, .f32⟩
  | .hbm, ⟨73, _⟩ => ⟨S1024x128, .f32⟩
  | .hbm, ⟨74, _⟩ => ⟨S1024x128, .i1⟩
  | .hbm, ⟨75, _⟩ => ⟨S1024x128, .f32⟩
  | .hbm, ⟨76, _⟩ => ⟨S32x1x4096, .i32⟩
  | _, _ => ⟨S4x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_cst : Ref sig .tc := ⟨.hbm, 28, rfl⟩
abbrev main_call0_c : Ref sig .tc := ⟨.hbm, 29, rfl⟩
abbrev main_call0_v1_0 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_call1_v0 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call2_v0 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]
-- ==== Proof.RefRun.lean ====
/-
  The run of the reference (../ReferenceIdeal.lean): @main is a straight line of host operations, so every buffer ends
  at the fold of the operations' results over the launch contents. The three result buffers are read here as
  functions of the four arguments: the distances, the place of each token's least distance, the per-cluster counts
  and sums, and the averaged centroids.
-/
module

public import proofs.«01_k».proof.Proof.Gen.ReferenceIdeal
public import Idealize.ShloMosaic.Lib.StableHlo.Run
public import Idealize.ShloMosaic.Lib.Quiescent

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The least value of each row of `x`, of a row's pairs of a value and a column number. -/
abbrev argMinValue (x : Vec F S131072x1024 .f32) (y : Vec F S131072x1024 .i32) (u : Vec F S_ .f32) (v : Vec F S_ .i32) :
    Vec F S131072 .f32 :=
  fun j => (Host.argReduce reducer_argmin_f32_i32 x y u v reducesTo_S131072x1024_S131072_d1 h_S_ j).1

/-- The column number of the least value of each row of `x`. -/
abbrev argMinPlace (x : Vec F S131072x1024 .f32) (y : Vec F S131072x1024 .i32) (u : Vec F S_ .f32) (v : Vec F S_ .i32) :
    Vec F S131072 .i32 :=
  fun j => (Host.argReduce reducer_argmin_f32_i32 x y u v reducesTo_S131072x1024_S131072_d1 h_S_ j).2

/-! ## The stages of the computation -/

/-- The rows of a keys or values array: the tokens, one row each. -/
def rows (x : Vec F S4x16x2048x128 .f32) : Vec F S131072x128 .f32 :=
  shapeCast S131072x128 x shapeCasts_S4x16x2048x128_S131072x128

/-- The distance of every row of `x` from every row of `c`. -/
def dist (x : Vec F S131072x128 .f32) (c : Vec F S1024x128 .f32) : Vec F S131072x1024 .f32 :=
  Host.sqrt (maximumf
    (subf
      (addf
        (broadcastInDim S131072x1024 ![0, 1] bcast_S131072x1_S131072x1024_0_1
          (broadcastInDim S131072x1 ![0] bcast_S131072_S131072x1_0
            (Host.reduceAdd (mulf x x) (constant S_ .f32 0x00000000#32) reducesTo_S131072x128_S131072_d1 h_S_)))
        (broadcastInDim S131072x1024 ![0, 1] bcast_S1x1024_S131072x1024_0_1
          (broadcastInDim S1x1024 ![1] bcast_S1024_S1x1024_1
            (Host.reduceAdd (mulf c c) (constant S_ .f32 0x00000000#32) reducesTo_S1024x128_S1024_d1 h_S_))))
      (mulf (broadcastInDim S131072x1024 ![] bcast_S_S131072x1024 (constant S_ .f32 0x40000000#32))
        (Host.dotGeneral dot_S131072x128_S128x1024_S131072x1024_1_0_0_1_n_n none x
          (transpose S128x1024 [1, 0] c transposes_S1024x128_S128x1024_1_0))))
    (broadcastInDim S131072x1024 ![] bcast_S_S131072x1024 (constant S_ .f32 0x00000000#32)))

/-- The cluster of every token: the column of its least distance. -/
def place (d : Vec F S131072x1024 .f32) : Vec F S131072 .i32 :=
  argMinPlace d (iotaInDim S131072x1024 32 1) (constant S_ .f32 0x7F800000#32) (constantI S_ 32 0#32)

/-- How many tokens each cluster has. -/
def counts (p : Vec F S131072 .i32) : Vec F S1024 .f32 :=
  Host.scatterAdd scatter_S1024_S131072x1_S131072_n_0_0_1
    (broadcastInDim S1024 ![] bcast_S_S1024 (constant S_ .f32 0x00000000#32))
    (broadcastInDim S131072x1 ![0] bcast_S131072_S131072x1_0 p)
    (broadcastInDim S131072 ![] bcast_S_S131072 (constant S_ .f32 0x3F800000#32))

/-- The sum of each cluster's rows of `x`. -/
def sums (p : Vec F S131072 .i32) (x : Vec F S131072x128 .f32) : Vec F S1024x128 .f32 :=
  Host.scatterAdd scatter_S1024x128_S131072x1_S131072x128_1_0_0_1
    (broadcastInDim S1024x128 ![] bcast_S_S1024x128 (constant S_ .f32 0x00000000#32))
    (broadcastInDim S131072x1 ![0] bcast_S131072_S131072x1_0 p) x

/-- The centroids after the update: where a cluster has a token, 0.99 of the old one and 0.01 of the mean. -/
def updated (n : Vec F S1024 .f32) (s c : Vec F S1024x128 .f32) : Vec F S1024x128 .f32 :=
  select
    (broadcastInDim S1024x128 ![0, 1] bcast_S1024x1_S1024x128_0_1
      (broadcastInDim S1024x1 ![0] bcast_S1024_S1024x1_0
        (cmpf .ogt n (broadcastInDim S1024 ![] bcast_S_S1024 (constant S_ .f32 0x00000000#32)))))
    (addf
      (mulf (broadcastInDim S1024x128 ![] bcast_S_S1024x128 (constant S_ .f32 0x3F7D70A4#32)) c)
      (mulf (broadcastInDim S1024x128 ![] bcast_S_S1024x128 (constant S_ .f32 0x3C23D70A#32))
        (Host.divf s
          (broadcastInDim S1024x128 ![0, 1] bcast_S1024x1_S1024x128_0_1
            (broadcastInDim S1024x1 ![0] bcast_S1024_S1024x1_0
              (maximumf n (broadcastInDim S1024 ![] bcast_S_S1024 (constant S_ .f32 0x3F800000#32))))))))
    c

/-! ## The run -/

/-- The operations of the tokens and their distances. -/
def opsDist : List (HloOp τ sig (Elt F)) :=
  [ reshape main_arg0 main_v0 (rfl : (.f32 : EltTy) = .f32) shapeCasts_S4x16x2048x128_S131072x128,
    reshape main_arg1 main_v1 (rfl : (.f32 : EltTy) = .f32) shapeCasts_S4x16x2048x128_S131072x128,
    binary main_v0 main_v0 main_v2 (mulf : (⟨S131072x128, .f32⟩ : BufTy).Contents (Elt F) → (⟨S131072x128, .f32⟩ : BufTy).Contents (Elt F) → (⟨S131072x128, .f32⟩ : BufTy).Contents (Elt F)),
    nullary main_cst (constant S_ .f32 0x00000000#32),
    binary main_v2 main_cst main_v3 ((fun x v => Host.reduceAdd x v reducesTo_S131072x128_S131072_d1 h_S_) : (⟨S131072x128, .f32⟩ : BufTy).Contents (Elt F) → (⟨S_, .f32⟩ : BufTy).Contents (Elt F) → (⟨S131072, .f32⟩ : BufTy).Contents (Elt F)),
    unary main_v3 main_v4 (broadcastInDim S131072x1 ![0] bcast_S131072_S131072x1_0 : (⟨S131072, .f32⟩ : BufTy).Contents (Elt F) → (⟨S131072x1, .f32⟩ : BufTy).Contents (Elt F)),
    binary main_arg2 main_arg2 main_v5 (mulf : (⟨S1024x128, .f32⟩ : BufTy).Contents (Elt F) → (⟨S1024x128, .f32⟩ : BufTy).Contents (Elt F) → (⟨S1024x128, .f32⟩ : BufTy).Contents (Elt F)),
    nullary main_cst_0 (constant S_ .f32 0x00000000#32),
    binary main_v5 main_cst_0 main_v6 ((fun x v => Host.reduceAdd x v reducesTo_S1024x128_S1024_d1 h_S_) : (⟨S1024x128, .f32⟩ : BufTy).Contents (Elt F) → (⟨S_, .f32⟩ : BufTy).Contents (Elt F) → (⟨S1024, .f32⟩ : BufTy).Contents (Elt F)),
    unary main_v6 main_v7 (broadcastInDim S1x1024 ![1] bcast_S1024_S1x1024_1 : (⟨S1024, .f32⟩ : BufTy).Contents (Elt F) → (⟨S1x1024, .f32⟩ : BufTy).Contents (Elt F)),
    unary main_v4 main_v8 (broadcastInDim S131072x1024 ![0, 1] bcast_S131072x1_S131072x1024_0_1 : (⟨S131072x1, .f32⟩ : BufTy).Contents (Elt F) → (⟨S131072x1024, .f32⟩ : BufTy).Contents (Elt F)),
    unary main_v7 main_v9 (broadcastInDim S131072x1024 ![0, 1] bcast_S1x1024_S131072x1024_0_1 : (⟨S1x1024, .f32⟩ : BufTy).Contents (Elt F) → (⟨S131072x1024, .f32⟩ : BufTy).Contents (Elt F)),
    binary main_v8 main_v9 main_v10 (addf : (⟨S131072x1024, .f32⟩ : BufTy).Contents (Elt F) → (⟨S131072x1024, .f32⟩ : BufTy).Contents (Elt F) → (⟨S131072x1024, .f32⟩ : BufTy).Contents (Elt F)),
    unary main_arg2 main_v11 ((transpose S128x1024 [1, 0] · transposes_S1024x128_S128x1024_1_0) : (⟨S1024x128, .f32⟩ : BufTy).Contents (Elt F) → (⟨S128x1024, .f32⟩ : BufTy).Contents (Elt F)),
    binary main_v0 main_v11 main_v12 ((fun l r => Host.dotGeneral dot_S131072x128_S128x1024_S131072x1024_1_0_0_1_n_n none l r) : (⟨S131072x128, .f32⟩ : BufTy).Contents (Elt F) → (⟨S128x1024, .f32⟩ : BufTy).Contents (Elt F) → (⟨S131072x1024, .f32⟩ : BufTy).Contents (Elt F)),
    nullary main_cst_1 (constant S_ .f32 0x40000000#32),
    unary main_cst_1 main_v13 (broadcastInDim S131072x1024 ![] bcast_S_S131072x1024 : (⟨S_, .f32⟩ : BufTy).Contents (Elt F) → (⟨S131072x1024, .f32⟩ : BufTy).Contents (Elt F)),
    binary main_v13 main_v12 main_v14 (mulf : (⟨S131072x1024, .f32⟩ : BufTy).Contents (Elt F) → (⟨S131072x1024, .f32⟩ : BufTy).Contents (Elt F) → (⟨S131072x1024, .f32⟩ : BufTy).Contents (Elt F)),
    binary main_v10 main_v14 main_v15 (subf : (⟨S131072x1024, .f32⟩ : BufTy).Contents (Elt F) → (⟨S131072x1024, .f32⟩ : BufTy).Contents (Elt F) → (⟨S131072x1024, .f32⟩ : BufTy).Contents (Elt F)),
    nullary main_cst_2 (constant S_ .f32 0x00000000#32),
    unary main_cst_2 main_v16 (broadcastInDim S131072x1024 ![] bcast_S_S131072x1024 : (⟨S_, .f32⟩ : BufTy).Contents (Elt F) → (⟨S131072x1024, .f32⟩ : BufTy).Contents (Elt F)),
    binary main_v15 main_v16 main_v17 (maximumf : (⟨S131072x1024, .f32⟩ : BufTy).Contents (Elt F) → (⟨S131072x1024, .f32⟩ : BufTy).Contents (Elt F) → (⟨S131072x1024, .f32⟩ : BufTy).Contents (Elt F)),
    unary main_v17 main_v18 (Host.sqrt : (⟨S131072x1024, .f32⟩ : BufTy).Contents (Elt F) → (⟨S131072x1024, .f32⟩ : BufTy).Contents (Elt F)) ]

/-- The operations of each token's cluster. -/
def opsPlace : List (HloOp τ sig (Elt F)) :=
  [ nullary main_call0_v0 (iotaInDim S131072x1024 32 1),
    nullary main_call0_cst (constant S_ .f32 0x7F800000#32),
    nullary main_call0_c (constantI S_ 32 0#32),
    quaternary main_v18 main_call0_v0 main_call0_cst main_call0_c main_call0_v1_0 (argMinValue : (⟨S131072x1024, .f32⟩ : BufTy).Contents (Elt F) → (⟨S131072x1024, .i32⟩ : BufTy).Contents (Elt F) → (⟨S_, .f32⟩ : BufTy).Contents (Elt F) → (⟨S_, .i32⟩ : BufTy).Contents (Elt F) → (⟨S131072, .f32⟩ : BufTy).Contents (Elt F)),
    quaternary main_v18 main_call0_v0 main_call0_cst main_call0_c main_v19 (argMinPlace : (⟨S131072x1024, .f32⟩ : BufTy).Contents (Elt F) → (⟨S131072x1024, .i32⟩ : BufTy).Contents (Elt F) → (⟨S_, .f32⟩ : BufTy).Contents (Elt F) → (⟨S_, .i32⟩ : BufTy).Contents (Elt F) → (⟨S131072, .i32⟩ : BufTy).Contents (Elt F)) ]

/-- The operations of the counts and sums of the clusters. -/
def opsSums : List (HloOp τ sig (Elt F)) :=
  [ nullary main_cst_3 (constant S_ .f32 0x3F800000#32),
    unary main_cst_3 main_v20 (broadcastInDim S131072 ![] bcast_S_S131072 : (⟨S_, .f32⟩ : BufTy).Contents (Elt F) → (⟨S131072, .f32⟩ : BufTy).Contents (Elt F)),
    nullary main_cst_4 (constant S_ .f32 0x00000000#32),
    unary main_cst_4 main_v21 (broadcastInDim S1024 ![] bcast_S_S1024 : (⟨S_, .f32⟩ : BufTy).Contents (Elt F) → (⟨S1024, .f32⟩ : BufTy).Contents (Elt F)),
    unary main_v19 main_v22 (broadcastInDim S131072x1 ![0] bcast_S131072_S131072x1_0 : (⟨S131072, .i32⟩ : BufTy).Contents (Elt F) → (⟨S131072x1, .i32⟩ : BufTy).Contents (Elt F)),
    ternary main_v21 main_v22 main_v20 main_v23 ((fun x i u => Host.scatterAdd scatter_S1024_S131072x1_S131072_n_0_0_1 x i u) : (⟨S1024, .f32⟩ : BufTy).Contents (Elt F) → (⟨S131072x1, .i32⟩ : BufTy).Contents (Elt F) → (⟨S131072, .f32⟩ : BufTy).Contents (Elt F) → (⟨S1024, .f32⟩ : BufTy).Contents (Elt F)),
    nullary main_cst_5 (constant S_ .f32 0x00000000#32),
    unary main_cst_5 main_v24 (broadcastInDim S1024x128 ![] bcast_S_S1024x128 : (⟨S_, .f32⟩ : BufTy).Contents (Elt F) → (⟨S1024x128, .f32⟩ : BufTy).Contents (Elt F)),
    unary main_v19 main_v25 (broadcastInDim S131072x1 ![0] bcast_S131072_S131072x1_0 : (⟨S131072, .i32⟩ : BufTy).Contents (Elt F) → (⟨S131072x1, .i32⟩ : BufTy).Contents (Elt F)),
    ternary main_v24 main_v25 main_v0 main_v26 ((fun x i u => Host.scatterAdd scatter_S1024x128_S131072x1_S131072x128_1_0_0_1 x i u) : (⟨S1024x128, .f32⟩ : BufTy).Contents (Elt F) → (⟨S131072x1, .i32⟩ : BufTy).Contents (Elt F) → (⟨S131072x128, .f32⟩ : BufTy).Contents (Elt F) → (⟨S1024x128, .f32⟩ : BufTy).Contents (Elt F)),
    nullary main_cst_6 (constant S_ .f32 0x00000000#32),
    unary main_cst_6 main_v27 (broadcastInDim S1024x128 ![] bcast_S_S1024x128 : (⟨S_, .f32⟩ : BufTy).Contents (Elt F) → (⟨S1024x128, .f32⟩ : BufTy).Contents (Elt F)),
    unary main_v19 main_v28 (broadcastInDim S131072x1 ![0] bcast_S131072_S131072x1_0 : (⟨S131072, .i32⟩ : BufTy).Contents (Elt F) → (⟨S131072x1, .i32⟩ : BufTy).Contents (Elt F)),
    ternary main_v27 main_v28 main_v1 main_v29 ((fun x i u => Host.scatterAdd scatter_S1024x128_S131072x1_S131072x128_1_0_0_1 x i u) : (⟨S1024x128, .f32⟩ : BufTy).Contents (Elt F) → (⟨S131072x1, .i32⟩ : BufTy).Contents (Elt F) → (⟨S131072x128, .f32⟩ : BufTy).Contents (Elt F) → (⟨S1024x128, .f32⟩ : BufTy).Contents (Elt F)) ]

/-- The operations of the averaged centroids. -/
def opsUpdate : List (HloOp τ sig (Elt F)) :=
  [ nullary main_cst_7 (constant S_ .f32 0x3F800000#32),
    unary main_cst_7 main_v30 (broadcastInDim S1024 ![] bcast_S_S1024 : (⟨S_, .f32⟩ : BufTy).Contents (Elt F) → (⟨S1024, .f32⟩ : BufTy).Contents (Elt F)),
    binary main_v23 main_v30 main_v31 (maximumf : (⟨S1024, .f32⟩ : BufTy).Contents (Elt F) → (⟨S1024, .f32⟩ : BufTy).Contents (Elt F) → (⟨S1024, .f32⟩ : BufTy).Contents (Elt F)),
    unary main_v31 main_v32 (broadcastInDim S1024x1 ![0] bcast_S1024_S1024x1_0 : (⟨S1024, .f32⟩ : BufTy).Contents (Elt F) → (⟨S1024x1, .f32⟩ : BufTy).Contents (Elt F)),
    unary main_v32 main_v33 (broadcastInDim S1024x128 ![0, 1] bcast_S1024x1_S1024x128_0_1 : (⟨S1024x1, .f32⟩ : BufTy).Contents (Elt F) → (⟨S1024x128, .f32⟩ : BufTy).Contents (Elt F)),
    binary main_v26 main_v33 main_v34 (Host.divf : (⟨S1024x128, .f32⟩ : BufTy).Contents (Elt F) → (⟨S1024x128, .f32⟩ : BufTy).Contents (Elt F) → (⟨S1024x128, .f32⟩ : BufTy).Contents (Elt F)),
    unary main_v32 main_v35 (broadcastInDim S1024x128 ![0, 1] bcast_S1024x1_S1024x128_0_1 : (⟨S1024x1, .f32⟩ : BufTy).Contents (Elt F) → (⟨S1024x128, .f32⟩ : BufTy).Contents (Elt F)),
    binary main_v29 main_v35 main_v36 (Host.divf : (⟨S1024x128, .f32⟩ : BufTy).Contents (Elt F) → (⟨S1024x128, .f32⟩ : BufTy).Contents (Elt F) → (⟨S1024x128, .f32⟩ : BufTy).Contents (Elt F)),
    nullary main_cst_8 (constant S_ .f32 0x00000000#32),
    unary main_cst_8 main_v37 (broadcastInDim S1024 ![] bcast_S_S1024 : (⟨S_, .f32⟩ : BufTy).Contents (Elt F) → (⟨S1024, .f32⟩ : BufTy).Contents (Elt F)),
    binary main_v23 main_v37 main_v38 (cmpf .ogt : (⟨S1024, .f32⟩ : BufTy).Contents (Elt F) → (⟨S1024, .f32⟩ : BufTy).Contents (Elt F) → (⟨S1024, .i1⟩ : BufTy).Contents (Elt F)),
    unary main_v38 main_v39 (broadcastInDim S1024x1 ![0] bcast_S1024_S1024x1_0 : (⟨S1024, .i1⟩ : BufTy).Contents (Elt F) → (⟨S1024x1, .i1⟩ : BufTy).Contents (Elt F)),
    nullary main_cst_9 (constant S_ .f32 0x3F7D70A4#32),
    unary main_cst_9 main_v40 (broadcastInDim S1024x128 ![] bcast_S_S1024x128 : (⟨S_, .f32⟩ : BufTy).Contents (Elt F) → (⟨S1024x128, .f32⟩ : BufTy).Contents (Elt F)),
    binary main_v40 main_arg2 main_v41 (mulf : (⟨S1024x128, .f32⟩ : BufTy).Contents (Elt F) → (⟨S1024x128, .f32⟩ : BufTy).Contents (Elt F) → (⟨S1024x128, .f32⟩ : BufTy).Contents (Elt F)),
    nullary main_cst_10 (constant S_ .f32 0x3C23D70A#32),
    unary main_cst_10 main_v42 (broadcastInDim S1024x128 ![] bcast_S_S1024x128 : (⟨S_, .f32⟩ : BufTy).Contents (Elt F) → (⟨S1024x128, .f32⟩ : BufTy).Contents (Elt F)),
    binary main_v42 main_v34 main_v43 (mulf : (⟨S1024x128, .f32⟩ : BufTy).Contents (Elt F) → (⟨S1024x128, .f32⟩ : BufTy).Contents (Elt F) → (⟨S1024x128, .f32⟩ : BufTy).Contents (Elt F)),
    binary main_v41 main_v43 main_v44 (addf : (⟨S1024x128, .f32⟩ : BufTy).Contents (Elt F) → (⟨S1024x128, .f32⟩ : BufTy).Contents (Elt F) → (⟨S1024x128, .f32⟩ : BufTy).Contents (Elt F)),
    unary main_v39 main_call1_v0 (broadcastInDim S1024x128 ![0, 1] bcast_S1024x1_S1024x128_0_1 : (⟨S1024x1, .i1⟩ : BufTy).Contents (Elt F) → (⟨S1024x128, .i1⟩ : BufTy).Contents (Elt F)),
    ternary main_call1_v0 main_v44 main_arg2 main_v45 (select : (⟨S1024x128, .i1⟩ : BufTy).Contents (Elt F) → (⟨S1024x128, .f32⟩ : BufTy).Contents (Elt F) → (⟨S1024x128, .f32⟩ : BufTy).Contents (Elt F) → (⟨S1024x128, .f32⟩ : BufTy).Contents (Elt F)),
    nullary main_cst_11 (constant S_ .f32 0x3F7D70A4#32),
    unary main_cst_11 main_v46 (broadcastInDim S1024x128 ![] bcast_S_S1024x128 : (⟨S_, .f32⟩ : BufTy).Contents (Elt F) → (⟨S1024x128, .f32⟩ : BufTy).Contents (Elt F)),
    binary main_v46 main_arg3 main_v47 (mulf : (⟨S1024x128, .f32⟩ : BufTy).Contents (Elt F) → (⟨S1024x128, .f32⟩ : BufTy).Contents (Elt F) → (⟨S1024x128, .f32⟩ : BufTy).Contents (Elt F)),
    nullary main_cst_12 (constant S_ .f32 0x3C23D70A#32),
    unary main_cst_12 main_v48 (broadcastInDim S1024x128 ![] bcast_S_S1024x128 : (⟨S_, .f32⟩ : BufTy).Contents (Elt F) → (⟨S1024x128, .f32⟩ : BufTy).Contents (Elt F)),
    binary main_v48 main_v36 main_v49 (mulf : (⟨S1024x128, .f32⟩ : BufTy).Contents (Elt F) → (⟨S1024x128, .f32⟩ : BufTy).Contents (Elt F) → (⟨S1024x128, .f32⟩ : BufTy).Contents (Elt F)),
    binary main_v47 main_v49 main_v50 (addf : (⟨S1024x128, .f32⟩ : BufTy).Contents (Elt F) → (⟨S1024x128, .f32⟩ : BufTy).Contents (Elt F) → (⟨S1024x128, .f32⟩ : BufTy).Contents (Elt F)),
    unary main_v39 main_call2_v0 (broadcastInDim S1024x128 ![0, 1] bcast_S1024x1_S1024x128_0_1 : (⟨S1024x1, .i1⟩ : BufTy).Contents (Elt F) → (⟨S1024x128, .i1⟩ : BufTy).Contents (Elt F)),
    ternary main_call2_v0 main_v50 main_arg3 main_v51 (select : (⟨S1024x128, .i1⟩ : BufTy).Contents (Elt F) → (⟨S1024x128, .f32⟩ : BufTy).Contents (Elt F) → (⟨S1024x128, .f32⟩ : BufTy).Contents (Elt F) → (⟨S1024x128, .f32⟩ : BufTy).Contents (Elt F)),
    reshape main_v19 main_v52 (rfl : (.i32 : EltTy) = .i32) shapeCasts_S131072_S32x1x4096 ]

/-- @main's operations, in order, its calls' in their places. -/
def ops : List (HloOp τ sig (Elt F)) := opsDist ++ (opsPlace ++ (opsSums ++ opsUpdate))

set_option maxRecDepth 100000 in
/-- @main is that straight line. -/
theorem main_eq (c : Dev nD) : main (F := F) c = seq ops := rfl

/-! ## What each stage leaves -/

/-- One stretch of operations after another. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The stage of the distances leaves the tokens' keys. -/
theorem opsDist_v0 (V : Valuation τ sig (Elt F)) :
    after opsDist V (main_v0 : DevRef τ sig) = rows (V (main_arg0 : DevRef τ sig)) := by
  unfold opsDist; after_results_simp; rfl
/-- The stage of the distances leaves the tokens' values. -/
theorem opsDist_v1 (V : Valuation τ sig (Elt F)) :
    after opsDist V (main_v1 : DevRef τ sig) = rows (V (main_arg1 : DevRef τ sig)) := by
  unfold opsDist; after_results_simp; rfl
/-- The stage of the distances leaves every token's distance from every centroid. -/
theorem opsDist_v18 (V : Valuation τ sig (Elt F)) :
    after opsDist V (main_v18 : DevRef τ sig) = dist (rows (V (main_arg0 : DevRef τ sig))) (V (main_arg2 : DevRef τ sig)) := by
  unfold opsDist; after_results_simp; rfl
/-- The stage of the distances keeps the keys. -/
theorem opsDist_arg0 (V : Valuation τ sig (Elt F)) :
    after opsDist V (main_arg0 : DevRef τ sig) = V (main_arg0 : DevRef τ sig) := by
  unfold opsDist; after_results_simp
/-- The stage of the distances keeps the values. -/
theorem opsDist_arg1 (V : Valuation τ sig (Elt F)) :
    after opsDist V (main_arg1 : DevRef τ sig) = V (main_arg1 : DevRef τ sig) := by
  unfold opsDist; after_results_simp
/-- The stage of the distances keeps the key centroids. -/
theorem opsDist_arg2 (V : Valuation τ sig (Elt F)) :
    after opsDist V (main_arg2 : DevRef τ sig) = V (main_arg2 : DevRef τ sig) := by
  unfold opsDist; after_results_simp
/-- The stage of the distances keeps the value centroids. -/
theorem opsDist_arg3 (V : Valuation τ sig (Elt F)) :
    after opsDist V (main_arg3 : DevRef τ sig) = V (main_arg3 : DevRef τ sig) := by
  unfold opsDist; after_results_simp

/-- The stage of the places leaves each token's cluster. -/
theorem opsPlace_v19 (V : Valuation τ sig (Elt F)) :
    after opsPlace V (main_v19 : DevRef τ sig) = place (V (main_v18 : DevRef τ sig)) := by
  unfold opsPlace; after_results_simp; unfold place; rfl
/-- The stage of the places keeps the keys. -/
theorem opsPlace_arg0 (V : Valuation τ sig (Elt F)) :
    after opsPlace V (main_arg0 : DevRef τ sig) = V (main_arg0 : DevRef τ sig) := by
  unfold opsPlace; after_results_simp
/-- The stage of the places keeps the values. -/
theorem opsPlace_arg1 (V : Valuation τ sig (Elt F)) :
    after opsPlace V (main_arg1 : DevRef τ sig) = V (main_arg1 : DevRef τ sig) := by
  unfold opsPlace; after_results_simp
/-- The stage of the places keeps the key centroids. -/
theorem opsPlace_arg2 (V : Valuation τ sig (Elt F)) :
    after opsPlace V (main_arg2 : DevRef τ sig) = V (main_arg2 : DevRef τ sig) := by
  unfold opsPlace; after_results_simp
/-- The stage of the places keeps the value centroids. -/
theorem opsPlace_arg3 (V : Valuation τ sig (Elt F)) :
    after opsPlace V (main_arg3 : DevRef τ sig) = V (main_arg3 : DevRef τ sig) := by
  unfold opsPlace; after_results_simp
/-- The stage of the places keeps the tokens' keys. -/
theorem opsPlace_v0 (V : Valuation τ sig (Elt F)) :
    after opsPlace V (main_v0 : DevRef τ sig) = V (main_v0 : DevRef τ sig) := by
  unfold opsPlace; after_results_simp
/-- The stage of the places keeps the tokens' values. -/
theorem opsPlace_v1 (V : Valuation τ sig (Elt F)) :
    after opsPlace V (main_v1 : DevRef τ sig) = V (main_v1 : DevRef τ sig) := by
  unfold opsPlace; after_results_simp

/-- The stage of the sums leaves the counts. -/
theorem opsSums_v23 (V : Valuation τ sig (Elt F)) :
    after opsSums V (main_v23 : DevRef τ sig) = counts (V (main_v19 : DevRef τ sig)) := by
  unfold opsSums; after_results_simp; rfl
/-- The stage of the sums leaves the sums of the keys. -/
theorem opsSums_v26 (V : Valuation τ sig (Elt F)) :
    after opsSums V (main_v26 : DevRef τ sig) = sums (V (main_v19 : DevRef τ sig)) (V (main_v0 : DevRef τ sig)) := by
  unfold opsSums; after_results_simp; rfl
/-- The stage of the sums leaves the sums of the values. -/
theorem opsSums_v29 (V : Valuation τ sig (Elt F)) :
    after opsSums V (main_v29 : DevRef τ sig) = sums (V (main_v19 : DevRef τ sig)) (V (main_v1 : DevRef τ sig)) := by
  unfold opsSums; after_results_simp; rfl
/-- The stage of the counts and sums keeps the keys. -/
theorem opsSums_arg0 (V : Valuation τ sig (Elt F)) :
    after opsSums V (main_arg0 : DevRef τ sig) = V (main_arg0 : DevRef τ sig) := by
  unfold opsSums; after_results_simp
/-- The stage of the counts and sums keeps the values. -/
theorem opsSums_arg1 (V : Valuation τ sig (Elt F)) :
    after opsSums V (main_arg1 : DevRef τ sig) = V (main_arg1 : DevRef τ sig) := by
  unfold opsSums; after_results_simp
/-- The stage of the counts and sums keeps the key centroids. -/
theorem opsSums_arg2 (V : Valuation τ sig (Elt F)) :
    after opsSums V (main_arg2 : DevRef τ sig) = V (main_arg2 : DevRef τ sig) := by
  unfold opsSums; after_results_simp
/-- The stage of the counts and sums keeps the value centroids. -/
theorem opsSums_arg3 (V : Valuation τ sig (Elt F)) :
    after opsSums V (main_arg3 : DevRef τ sig) = V (main_arg3 : DevRef τ sig) := by
  unfold opsSums; after_results_simp
/-- The stage of the sums keeps the places. -/
theorem opsSums_v19 (V : Valuation τ sig (Elt F)) :
    after opsSums V (main_v19 : DevRef τ sig) = V (main_v19 : DevRef τ sig) := by
  unfold opsSums; after_results_simp

/-- The stage of the averages leaves the new key centroids. -/
theorem opsUpdate_v45 (V : Valuation τ sig (Elt F)) :
    after opsUpdate V (main_v45 : DevRef τ sig)
      = updated (V (main_v23 : DevRef τ sig)) (V (main_v26 : DevRef τ sig)) (V (main_arg2 : DevRef τ sig)) := by
  unfold opsUpdate; after_results_simp; rfl
/-- The stage of the averages leaves the new value centroids. -/
theorem opsUpdate_v51 (V : Valuation τ sig (Elt F)) :
    after opsUpdate V (main_v51 : DevRef τ sig)
      = updated (V (main_v23 : DevRef τ sig)) (V (main_v29 : DevRef τ sig)) (V (main_arg3 : DevRef τ sig)) := by
  unfold opsUpdate; after_results_simp; rfl
/-- The stage of the averages leaves the places, reshaped. -/
theorem opsUpdate_v52 (V : Valuation τ sig (Elt F)) :
    after opsUpdate V (main_v52 : DevRef τ sig)
      = shapeCast S32x1x4096 (V (main_v19 : DevRef τ sig)) shapeCasts_S131072_S32x1x4096 := by
  unfold opsUpdate; after_results_simp; rfl
/-- The stage of the averages keeps the keys. -/
theorem opsUpdate_arg0 (V : Valuation τ sig (Elt F)) :
    after opsUpdate V (main_arg0 : DevRef τ sig) = V (main_arg0 : DevRef τ sig) := by
  unfold opsUpdate; after_results_simp
/-- The stage of the averages keeps the values. -/
theorem opsUpdate_arg1 (V : Valuation τ sig (Elt F)) :
    after opsUpdate V (main_arg1 : DevRef τ sig) = V (main_arg1 : DevRef τ sig) := by
  unfold opsUpdate; after_results_simp
/-- The stage of the averages keeps the key centroids. -/
theorem opsUpdate_arg2 (V : Valuation τ sig (Elt F)) :
    after opsUpdate V (main_arg2 : DevRef τ sig) = V (main_arg2 : DevRef τ sig) := by
  unfold opsUpdate; after_results_simp
/-- The stage of the averages keeps the value centroids. -/
theorem opsUpdate_arg3 (V : Valuation τ sig (Elt F)) :
    after opsUpdate V (main_arg3 : DevRef τ sig) = V (main_arg3 : DevRef τ sig) := by
  unfold opsUpdate; after_results_simp

/-- The first result buffer: every token's cluster. -/
theorem place_eq (V : Valuation τ sig (Elt F)) :
    after ops V (main_v52 : DevRef τ sig)
      = shapeCast S32x1x4096 (place (dist (rows (V (main_arg0 : DevRef τ sig))) (V (main_arg2 : DevRef τ sig))))
          shapeCasts_S131072_S32x1x4096 := by
  rw [ops, after_append, after_append, after_append, opsUpdate_v52, opsSums_v19, opsPlace_v19, opsDist_v18]

/-- The second: the key centroids after the update. -/
theorem keys_eq (V : Valuation τ sig (Elt F)) :
    after ops V (main_v45 : DevRef τ sig)
      = updated (counts (place (dist (rows (V (main_arg0 : DevRef τ sig))) (V (main_arg2 : DevRef τ sig)))))
          (sums (place (dist (rows (V (main_arg0 : DevRef τ sig))) (V (main_arg2 : DevRef τ sig)))) (rows (V (main_arg0 : DevRef τ sig))))
          (V (main_arg2 : DevRef τ sig)) := by
  rw [ops, after_append, after_append, after_append, opsUpdate_v45, opsSums_v23, opsSums_v26, opsSums_arg2, opsPlace_v19, opsPlace_v0, opsPlace_arg2, opsDist_v18, opsDist_v0,
    opsDist_arg2]

/-- The third: the value centroids after the update. -/
theorem values_eq (V : Valuation τ sig (Elt F)) :
    after ops V (main_v51 : DevRef τ sig)
      = updated (counts (place (dist (rows (V (main_arg0 : DevRef τ sig))) (V (main_arg2 : DevRef τ sig)))))
          (sums (place (dist (rows (V (main_arg0 : DevRef τ sig))) (V (main_arg2 : DevRef τ sig)))) (rows (V (main_arg1 : DevRef τ sig))))
          (V (main_arg3 : DevRef τ sig)) := by
  rw [ops, after_append, after_append, after_append, opsUpdate_v51, opsSums_v23, opsSums_v29, opsSums_arg3, opsPlace_v19, opsPlace_v1, opsPlace_arg3, opsDist_v18, opsDist_v1,
    opsDist_arg3]

/-- No operation writes an argument buffer. -/
theorem arg0_eq (V : Valuation τ sig (Elt F)) : after ops V (main_arg0 : DevRef τ sig) = V (main_arg0 : DevRef τ sig) := by
  rw [ops, after_append, after_append, after_append, opsUpdate_arg0, opsSums_arg0, opsPlace_arg0, opsDist_arg0]
/-- The whole run keeps the values. -/
theorem arg1_eq (V : Valuation τ sig (Elt F)) : after ops V (main_arg1 : DevRef τ sig) = V (main_arg1 : DevRef τ sig) := by
  rw [ops, after_append, after_append, after_append, opsUpdate_arg1, opsSums_arg1, opsPlace_arg1, opsDist_arg1]
/-- The whole run keeps the key centroids. -/
theorem arg2_eq (V : Valuation τ sig (Elt F)) : after ops V (main_arg2 : DevRef τ sig) = V (main_arg2 : DevRef τ sig) := by
  rw [ops, after_append, after_append, after_append, opsUpdate_arg2, opsSums_arg2, opsPlace_arg2, opsDist_arg2]
/-- The whole run keeps the value centroids. -/
theorem arg3_eq (V : Valuation τ sig (Elt F)) : after ops V (main_arg3 : DevRef τ sig) = V (main_arg3 : DevRef τ sig) := by
  rw [ops, after_append, after_append, after_append, opsUpdate_arg3, opsSums_arg3, opsPlace_arg3, opsDist_arg3]

/-- Nothing is scoped on this signature. -/
theorem scopedRefs_eq : (Finset.univ.filter fun b : Ref sig .tc => b.isScoped) = ∅ := by decide
/-- The reference has no scoped semaphore. -/
theorem scopedSems_eq : (Finset.univ.filter fun sm : SemLoc sig => sm.isScoped .tc) = ∅ := by decide

/-- Every operation touches TensorCore references only. -/
theorem opsDist_sub : (opsDist : List (HloOp τ sig (Elt F))).Forall fun op => op.bufs ⊆ tcRefs τ sig :=
  ⟨reshape_bufs_sub .., reshape_bufs_sub .., binary_bufs_sub .., nullary_bufs_sub .., binary_bufs_sub ..,
    unary_bufs_sub .., binary_bufs_sub .., nullary_bufs_sub .., binary_bufs_sub .., unary_bufs_sub ..,
    unary_bufs_sub .., unary_bufs_sub .., binary_bufs_sub .., unary_bufs_sub .., binary_bufs_sub ..,
    nullary_bufs_sub .., unary_bufs_sub .., binary_bufs_sub .., binary_bufs_sub .., nullary_bufs_sub ..,
    unary_bufs_sub .., binary_bufs_sub .., unary_bufs_sub ..⟩
/-- The operations of the places touch TensorCore buffers only. -/
theorem opsPlace_sub : (opsPlace : List (HloOp τ sig (Elt F))).Forall fun op => op.bufs ⊆ tcRefs τ sig :=
  ⟨nullary_bufs_sub .., nullary_bufs_sub .., nullary_bufs_sub .., quaternary_bufs_sub .., quaternary_bufs_sub ..⟩
/-- The operations of the counts and sums touch TensorCore buffers only. -/
theorem opsSums_sub : (opsSums : List (HloOp τ sig (Elt F))).Forall fun op => op.bufs ⊆ tcRefs τ sig :=
  ⟨nullary_bufs_sub .., unary_bufs_sub .., nullary_bufs_sub .., unary_bufs_sub .., unary_bufs_sub ..,
    ternary_bufs_sub .., nullary_bufs_sub .., unary_bufs_sub .., unary_bufs_sub .., ternary_bufs_sub ..,
    nullary_bufs_sub .., unary_bufs_sub .., unary_bufs_sub .., ternary_bufs_sub ..⟩
/-- The operations of the averages touch TensorCore buffers only. -/
theorem opsUpdate_sub : (opsUpdate : List (HloOp τ sig (Elt F))).Forall fun op => op.bufs ⊆ tcRefs τ sig :=
  ⟨nullary_bufs_sub .., unary_bufs_sub .., binary_bufs_sub .., unary_bufs_sub .., unary_bufs_sub ..,
    binary_bufs_sub .., unary_bufs_sub .., binary_bufs_sub .., nullary_bufs_sub .., unary_bufs_sub ..,
    binary_bufs_sub .., unary_bufs_sub .., nullary_bufs_sub .., unary_bufs_sub .., binary_bufs_sub ..,
    nullary_bufs_sub .., unary_bufs_sub .., binary_bufs_sub .., binary_bufs_sub .., unary_bufs_sub ..,
    ternary_bufs_sub .., nullary_bufs_sub .., unary_bufs_sub .., binary_bufs_sub .., nullary_bufs_sub ..,
    unary_bufs_sub .., binary_bufs_sub .., binary_bufs_sub .., unary_bufs_sub .., ternary_bufs_sub ..,
    reshape_bufs_sub ..⟩
/-- All the operations touch TensorCore buffers only. -/
theorem ops_sub : (ops : List (HloOp τ sig (Elt F))).Forall fun op => op.bufs ⊆ tcRefs τ sig := by
  unfold ops
  exact List.forall_append.2 ⟨opsDist_sub, List.forall_append.2 ⟨opsPlace_sub, List.forall_append.2 ⟨opsSums_sub, opsUpdate_sub⟩⟩⟩

/-- From any memory with zero counters every execution of @main terminates with the three result buffers at their
    functions of the arguments' launch contents, and the arguments unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD,
        (r.2.mem ((c.tc : Thread nD τ).loc main_v52)
            = shapeCast S32x1x4096 (place (dist (rows (m ((c.tc : Thread nD τ).loc main_arg0))) (m ((c.tc : Thread nD τ).loc main_arg2))))
                shapeCasts_S131072_S32x1x4096
          ∧ r.2.mem ((c.tc : Thread nD τ).loc main_v45)
            = updated (counts (place (dist (rows (m ((c.tc : Thread nD τ).loc main_arg0))) (m ((c.tc : Thread nD τ).loc main_arg2)))))
                (sums (place (dist (rows (m ((c.tc : Thread nD τ).loc main_arg0))) (m ((c.tc : Thread nD τ).loc main_arg2))))
                  (rows (m ((c.tc : Thread nD τ).loc main_arg0))))
                (m ((c.tc : Thread nD τ).loc main_arg2))
          ∧ r.2.mem ((c.tc : Thread nD τ).loc main_v51)
            = updated (counts (place (dist (rows (m ((c.tc : Thread nD τ).loc main_arg0))) (m ((c.tc : Thread nD τ).loc main_arg2)))))
                (sums (place (dist (rows (m ((c.tc : Thread nD τ).loc main_arg0))) (m ((c.tc : Thread nD τ).loc main_arg2))))
                  (rows (m ((c.tc : Thread nD τ).loc main_arg1))))
                (m ((c.tc : Thread nD τ).loc main_arg3)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run defs _ _).mono (fun _ h c => ⟨⟨(h c main_v52).trans (place_eq _), (h c main_v45).trans (keys_eq _),
      (h c main_v51).trans (values_eq _)⟩,
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.Proof.Ref

end
-- ==== Proof.Nearest.lean ====
/-
  Arithmetic of the nearest centroid, on extended reals: which columns of a row are least, the first of them, the ways
  either program finds it, and why the kernel's shortened distance has the same least columns as the reference's.
-/
module

public import Idealize.ShloMosaic.PureOps.Ideal
public import Idealize.ShloMosaic.PureOps.Reduce
public import Idealize.ShloMosaic.PureOps.Ideal.Laws
public import Idealize.ShloMosaic.Lib.ValueIdxCore
public import Mathlib.Data.EReal.Basic
public import Mathlib.Data.EReal.Operations

@[expose] public section

noncomputable section

open Idealize.ShloMosaic Idealize.ShloMosaic.ValueIdx

namespace Cert.Proof.Nearest

/-! ## Least columns -/

/-- Column `j` is least in the row `f`. -/
def IsNearest {n : Nat} (f : Fin n → EReal) (j : Fin n) : Prop := ∀ k, f j ≤ f k

/-- Column `j` is the first of the least columns of the row `f`. -/
def IsFirst {n : Nat} (f : Fin n → EReal) (j : Fin n) : Prop := IsNearest f j ∧ ∀ k, IsNearest f k → j ≤ k

/-- A row has one first least column at most. -/
theorem IsFirst.unique {n : Nat} {f : Fin n → EReal} {j k : Fin n} (hj : IsFirst f j) (hk : IsFirst f k) : j = k :=
  le_antisymm (hj.2 k hk.1) (hk.2 j hj.1)

/-- A row that has a column has a first least one. -/
theorem exists_first {n : Nat} [NeZero n] (f : Fin n → EReal) : ∃ j, IsFirst f j := by
  classical
  obtain ⟨j, hj⟩ := Finite.exists_min f
  have hne : (Finset.univ.filter fun k => IsNearest f k).Nonempty := ⟨j, Finset.mem_filter.2 ⟨Finset.mem_univ j, hj⟩⟩
  refine ⟨(Finset.univ.filter fun k => IsNearest f k).min' hne, ?_, ?_⟩
  · have := Finset.min'_mem _ hne
    simpa using this
  · intro k hk
    exact Finset.min'_le _ _ (by simpa using hk)

/-- The first least column of a row. -/
def first {n : Nat} [NeZero n] (f : Fin n → EReal) : Fin n := Classical.choose (exists_first f)

/-- It is one. -/
theorem first_spec {n : Nat} [NeZero n] (f : Fin n → EReal) : IsFirst f (first f) := Classical.choose_spec (exists_first f)

/-- Rows with the same least columns have the same first one. -/
theorem first_congr {n : Nat} [NeZero n] {f g : Fin n → EReal} (h : ∀ j, IsNearest f j ↔ IsNearest g j) :
    first f = first g :=
  (first_spec f).unique ⟨(h _).2 (first_spec g).1, fun k hk => (first_spec g).2 k ((h k).1 hk)⟩

/-- An entry equals its row's minimum just when its column is least. -/
theorem eq_fold_min_iff {n : Nat} (f : Fin n → EReal) (j : Fin n) :
    f j = Finset.univ.fold min ⊤ f ↔ IsNearest f j := by
  constructor
  · intro h k
    rw [h]
    exact Finset.fold_min_le _ |>.2 (Or.inr ⟨k, Finset.mem_univ k, le_rfl⟩)
  · intro h
    exact le_antisymm (Finset.le_fold_min _ |>.2 ⟨le_top, fun k _ => h k⟩)
      (Finset.fold_min_le _ |>.2 (Or.inr ⟨j, Finset.mem_univ j, le_rfl⟩))

/-- The comparison for equality, read as one. -/
theorem cmp_oeq_iff (a b : EReal) : Ideal.cmp .oeq a b = 1#1 ↔ a = b := by
  by_cases h : a = b <;> simp [Ideal.cmp, h]

/-! ## The first least column as the smallest index -/

/-- The signed minimum of two words, as integers. -/
theorem toInt_minsi (a b : BitVec 32) : (IntOp.minsi a b).toInt = min a.toInt b.toInt := by
  unfold IntOp.minsi
  by_cases h : a.toInt < b.toInt
  · have hs : a.slt b := by simpa [BitVec.slt] using h
    simp [hs, min_eq_left h.le]
  · have hs : ¬ a.slt b := by simpa [BitVec.slt] using h
    simp [hs, min_eq_right (not_lt.1 h)]

/-- A small number's word, as an integer. -/
theorem toInt_small {k : Nat} (hk : k ≤ 1024) : (BitVec.ofNat 32 k).toInt = (k : ℤ) := by
  have h : (BitVec.ofNat 32 k).toNat = k := by rw [BitVec.toNat_ofNat]; exact Nat.mod_eq_of_lt (by omega)
  rw [BitVec.toInt_eq_toNat_of_lt (by rw [h]; omega), h]

/-- The smallest of the words holding a least column's number, or 1024 elsewhere, is the first least column's. -/
theorem fold_minsi_first (f : Fin 1024 → EReal) (g : Fin 1024 → BitVec 32)
    (hg : ∀ j, IsNearest f j → g j = BitVec.ofNat 32 j.val) (hg' : ∀ j, ¬ IsNearest f j → g j = 1024#32) :
    Finset.univ.fold IntOp.minsi 2147483647#32 g = BitVec.ofNat 32 (first f).val := by
  apply BitVec.eq_of_toInt_eq
  have hv : ∀ j, (first f).val ≤ (g j).toInt := by
    intro j
    by_cases h : IsNearest f j
    · rw [hg j h, toInt_small j.isLt.le]
      exact_mod_cast (first_spec f).2 j h
    · rw [hg' j h]
      exact (Int.ofNat_le.2 (first f).isLt.le).trans (by decide)
  have hm : (Finset.univ.fold IntOp.minsi 2147483647#32 g).toInt
      = Finset.univ.fold min (2147483647#32).toInt fun j => (g j).toInt :=
    (Finset.fold_hom (op := IntOp.minsi) (op' := min) (m := BitVec.toInt) toInt_minsi).symm
  rw [hm, toInt_small (first f).isLt.le]
  apply le_antisymm
  · refine Finset.fold_min_le _ |>.2 (Or.inr ⟨first f, Finset.mem_univ _, ?_⟩)
    rw [hg _ (first_spec f).1, toInt_small (first f).isLt.le]
  · refine Finset.le_fold_min _ |>.2 ⟨?_, fun j _ => hv j⟩
    have := (first f).isLt
    exact (Int.ofNat_le.2 this.le).trans (by decide)

/-! ## The first least column as the end of a scan of pairs -/

/-- A pair of a value and a column comes no later than another: a smaller value, or the same and no larger column. -/
def Before (a b : EReal × BitVec 32) : Prop := a.1 < b.1 ∨ (a.1 = b.1 ∧ a.2.toInt ≤ b.2.toInt)

/-- Every pair comes before itself. -/
theorem Before.refl (a : EReal × BitVec 32) : Before a a := Or.inr ⟨rfl, le_rfl⟩

/-- Coming before is transitive. -/
theorem Before.trans {a b c : EReal × BitVec 32} (h : Before a b) (h' : Before b c) : Before a c := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

/-- What a scan needs of its step: one of the two pairs, coming no later than either. -/
def Picks (op : EReal × BitVec 32 → EReal × BitVec 32 → EReal × BitVec 32) : Prop :=
  ∀ a b, (op a b = a ∨ op a b = b) ∧ Before (op a b) a ∧ Before (op a b) b

/-- A scan ends at one of its pairs, coming no later than any of them. -/
theorem foldl_picks {op : EReal × BitVec 32 → EReal × BitVec 32 → EReal × BitVec 32} (hop : Picks op) :
    ∀ (L : List (EReal × BitVec 32)) (a : EReal × BitVec 32),
      (L.foldl op a = a ∨ L.foldl op a ∈ L) ∧ Before (L.foldl op a) a ∧ ∀ p ∈ L, Before (L.foldl op a) p := by
  intro L
  induction L with
  | nil => intro a; exact ⟨Or.inl rfl, Before.refl a, by simp⟩
  | cons q L ih =>
    intro a
    obtain ⟨h1, h2, h3⟩ := ih (op a q)
    obtain ⟨g1, g2, g3⟩ := hop a q
    rw [List.foldl_cons]
    refine ⟨?_, h2.trans g2, ?_⟩
    · rcases h1 with h1 | h1
      · rcases g1 with g1 | g1
        · exact Or.inl (h1.trans g1)
        · exact Or.inr (List.mem_cons.2 (Or.inl (h1.trans g1)))
      · exact Or.inr (List.mem_cons_of_mem _ h1)
    · intro p hp
      rcases List.mem_cons.1 hp with rfl | hp
      · exact h2.trans g3
      · exact h3 p hp

/-- A scan of a row's pairs, from the largest value and column 0, ends at the first least column. -/
theorem foldl_first {op : EReal × BitVec 32 → EReal × BitVec 32 → EReal × BitVec 32} (hop : Picks op)
    (f : Fin 1024 → EReal) (L : List (EReal × BitVec 32))
    (hL : ∀ p, p ∈ L ↔ ∃ k : Fin 1024, p = (f k, BitVec.ofNat 32 k.val)) :
    (L.foldl op (⊤, 0#32)).2 = BitVec.ofNat 32 (first f).val := by
  obtain ⟨h1, -, h3⟩ := foldl_picks hop L (⊤, 0#32)
  have hk : ∃ k : Fin 1024, L.foldl op (⊤, 0#32) = (f k, BitVec.ofNat 32 k.val) := by
    rcases h1 with h1 | h1
    · refine ⟨0, ?_⟩
      have h0 := h3 _ ((hL _).2 ⟨0, rfl⟩)
      rw [h1] at h0 ⊢
      rcases h0 with h0 | ⟨h0, -⟩
      · exact absurd h0 (not_lt.2 le_top)
      · exact Prod.ext h0 rfl
    · exact (hL _).1 h1
  obtain ⟨k, hk⟩ := hk
  rw [hk] at h3 ⊢
  have hle : ∀ j : Fin 1024, f k < f j ∨ (f k = f j ∧ k ≤ j) := by
    intro j
    rcases h3 _ ((hL _).2 ⟨j, rfl⟩) with h | ⟨h, hi⟩
    · exact Or.inl h
    · refine Or.inr ⟨h, ?_⟩
      simp only [toInt_small k.isLt.le, toInt_small j.isLt.le] at hi
      exact_mod_cast hi
  have hfirst : IsFirst f k := by
    refine ⟨fun j => ?_, fun j hj => ?_⟩
    · rcases hle j with h | ⟨h, -⟩
      · exact h.le
      · exact h.le
    · rcases hle j with h | ⟨-, h⟩
      · exact absurd (hj k) (not_le.2 h)
      · exact h
  rw [hfirst.unique (first_spec f)]

/-! ## The two distances have the same least columns -/

/-- The square root keeps and reflects the order of non-negative reals. -/
theorem sqrt_le_sqrt_iff {a b : ℝ} (ha : 0 ≤ a) (hb : 0 ≤ b) : Ideal.sqrt (a : EReal) ≤ Ideal.sqrt (b : EReal) ↔ a ≤ b := by
  show (if a < 0 then (⊥ : EReal) else (Real.sqrt a : EReal)) ≤ (if b < 0 then (⊥ : EReal) else (Real.sqrt b : EReal)) ↔ _
  rw [if_neg (not_lt.2 ha), if_neg (not_lt.2 hb), EReal.coe_le_coe_iff]
  exact Real.sqrt_le_sqrt_iff hb

/-- The reference's distance of `x` from the centroids `c`. -/
def fullDist {n : Nat} (x : Fin 128 → EReal) (c : Fin n → Fin 128 → EReal) (j : Fin n) : EReal :=
  Ideal.sqrt (max ((∑ l, x l * x l) + (∑ l, c j l * c j l) - Ideal.ofBits .f32 0x40000000#32 * ∑ l, x l * c j l)
    (Ideal.ofBits .f32 0x00000000#32))

/-- The kernel's: the length of `x` left out, no square root. -/
def shortDist {n : Nat} (x : Fin 128 → EReal) (c : Fin n → Fin 128 → EReal) (j : Fin n) : EReal :=
  (∑ l, c j l * c j l) + ∑ l, c j l * Ideal.ofBits .f32 0xC0000000#32 * x l

/-- The constant 2. -/
theorem ofBits_two : Ideal.ofBits .f32 0x40000000#32 = ((2 : ℝ) : EReal) := by
  simp [Ideal.ofBits, Ideal.ieee, -EReal.coe_mul]; norm_num

/-- The constant -2. -/
theorem ofBits_neg_two : Ideal.ofBits .f32 0xC0000000#32 = ((-2 : ℝ) : EReal) := by
  simp [Ideal.ofBits, Ideal.ieee, -EReal.coe_mul]; norm_num

/-- The constant 1. -/
theorem ofBits_one : Ideal.ofBits .f32 0x3F800000#32 = 1 := by
  simp [Ideal.ofBits, Ideal.ieee, -EReal.coe_mul]; norm_num

/-- The constant infinity is the largest extended real. -/
theorem ofBits_inf : Ideal.ofBits .f32 0x7F800000#32 = ⊤ := by
  simp [Ideal.ofBits, Ideal.ieee, -EReal.coe_mul]

/-- A sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- With real entries the kernel's distance and the reference's have the same least columns: the squared length of
    `x - c j` is the kernel's distance plus a number that does not depend on `j`, and it is not negative. -/
theorem nearest_iff {n : Nat} (x : Fin 128 → EReal) (c : Fin n → Fin 128 → EReal)
    (hx : ∀ l, ∃ r : ℝ, x l = (r : EReal)) (hc : ∀ j l, ∃ r : ℝ, c j l = (r : EReal)) (j : Fin n) :
    IsNearest (shortDist x c) j ↔ IsNearest (fullDist x c) j := by
  choose xr hxr using hx
  choose cr hcr using hc
  have hs : ∀ j, shortDist x c j = ((∑ l, (cr j l * cr j l) + ∑ l, cr j l * (-2) * xr l : ℝ) : EReal) := by
    intro j
    simp only [shortDist, ofBits_neg_two, hxr, hcr, EReal.coe_add, coe_sum, EReal.coe_mul]
  have hq : ∀ j, ∑ l, (xr l * xr l) + ∑ l, (cr j l * cr j l) - 2 * ∑ l, xr l * cr j l = ∑ l, (xr l - cr j l) ^ 2 := by
    intro j
    rw [Finset.mul_sum, ← Finset.sum_add_distrib, ← Finset.sum_sub_distrib]
    exact Finset.sum_congr rfl fun l _ => by ring
  have hp : ∀ j, 0 ≤ ∑ l, (xr l - cr j l) ^ 2 := fun j => Finset.sum_nonneg fun l _ => sq_nonneg _
  have hf : ∀ j, fullDist x c j = Ideal.sqrt ((∑ l, (xr l - cr j l) ^ 2 : ℝ) : EReal) := by
    intro j
    have : (∑ l, x l * x l) + (∑ l, c j l * c j l) - Ideal.ofBits .f32 0x40000000#32 * ∑ l, x l * c j l
        = ((∑ l, (xr l - cr j l) ^ 2 : ℝ) : EReal) := by
      rw [← hq j]
      simp only [ofBits_two, hxr, hcr, EReal.coe_add, EReal.coe_sub, coe_sum, EReal.coe_mul]
    rw [fullDist, this, Ideal.ofBits_zero_f32, max_eq_left (by exact_mod_cast hp j)]
  have hd : ∀ j, ∑ l, (xr l - cr j l) ^ 2
      = ∑ l, (xr l * xr l) + (∑ l, (cr j l * cr j l) + ∑ l, cr j l * (-2) * xr l) := by
    intro j
    rw [← Finset.sum_add_distrib, ← Finset.sum_add_distrib]
    exact Finset.sum_congr rfl fun l _ => by ring
  refine forall_congr' fun k => ?_
  rw [hs, hs, hf, hf, EReal.coe_le_coe_iff, sqrt_le_sqrt_iff (hp j) (hp k), hd j, hd k]
  exact (add_le_add_iff_left _).symm

/-! ## One least column only -/

/-- Where the least columns of a row, each counted as one, add up to one, column `j` is least only if it is the first. -/
theorem nearest_eq_first {n : Nat} [NeZero n] (f : Fin n → EReal) [DecidablePred (IsNearest f)]
    (h : ∑ j, (if IsNearest f j then (1 : EReal) else 0) = 1) (j : Fin n) (hj : IsNearest f j) : first f = j := by
  by_contra hne
  have hle : ∑ i ∈ {first f, j}, (if IsNearest f i then (1 : EReal) else 0) ≤ ∑ i, (if IsNearest f i then (1 : EReal) else 0) :=
    Finset.sum_le_sum_of_subset_of_nonneg (Finset.subset_univ _) fun i _ _ => by split <;> simp
  rw [h, Finset.sum_pair hne, if_pos (first_spec f).1, if_pos hj] at hle
  have : ((1 + 1 : ℝ) : EReal) ≤ ((1 : ℝ) : EReal) := by exact_mod_cast hle
  rw [EReal.coe_le_coe_iff] at this
  norm_num at this

/-! ## Reading arrays -/

/-- Row `t` of an array of rows of 128 entries. -/
def row {n : Nat} (x : (⟨2, ![n, 128]⟩ : Shape).Idx → EReal) (t : Fin n) : Fin 128 → EReal := fun l => x (ix2 t l)

/-- A sum over the contraction index of a matrix product is the sum over its one coordinate. -/
theorem sum_contr {sl sr so : Shape} (D : DotDims sl sr so) (n : Nat) (hr : D.contr.rank = 1)
    (hs : D.contr.size ⟨0, by omega⟩ = n) (f : D.contr.Idx → EReal) :
    ∑ k, f k = ∑ i : Fin n, f ((contrEquiv1 D n hr hs).symm i) :=
  (Equiv.sum_comp (contrEquiv1 D n hr hs).symm f).symm

/-- A centroid's entry after the update, from its count, its sum and its old entry. -/
def moved (n s c : EReal) : EReal :=
  Scalar.select (Ideal.cmp .ogt n (Ideal.ofBits .f32 0x00000000#32))
    (Ideal.ofBits .f32 0x3F7D70A4#32 * c + Ideal.ofBits .f32 0x3C23D70A#32 * Ideal.div s (max n (Ideal.ofBits .f32 0x3F800000#32))) c

end Cert.Proof.Nearest

end
-- ==== Proof.RefDist.lean ====
/-
  The reference's distances, at the extended reals, read at an index.
-/
module

public import proofs.«01_k».proof.Proof.RefRun
public import proofs.«01_k».proof.Proof.Nearest
public import Idealize.ShloMosaic.Lib.ValueIdx
public import Idealize.ShloMosaic.Lib.ValueIdxRank1
public import Idealize.ShloMosaic.Lib.Pipeline.Value

@[expose] public section

noncomputable section

open Idealize.ShloMosaic Idealize.ShloMosaic.ValueIdx
open scoped Classical

namespace Cert.Proof.Ref

open Cert.ReferenceIdeal Cert.ReferenceIdeal.Gen Cert.Proof.Nearest

/-! ## The distances -/

/-- A column of numbers, one per token, spread over the centroids. -/
theorem perToken_apply {α : Type} (v : S131072.Idx → α) (t : Fin 131072) (j : Fin 1024) :
    broadcastInDim S131072x1024 ![0, 1] bcast_S131072x1_S131072x1024_0_1
      (broadcastInDim S131072x1 ![0] bcast_S131072_S131072x1_0 v) (ix2 t j) = v (ix1 t) := by
  refine (broadcastInDim_apply _ _ _ _ (ix2 t 0) ?_).trans (broadcastInDim_apply _ _ _ _ (ix1 t) ?_)
  · intro a
    match a with
    | ⟨0, _⟩ => rfl
    | ⟨1, _⟩ => rfl
  · intro a
    match a with
    | ⟨0, _⟩ => rfl

/-- A row of numbers, one per centroid, spread over the tokens. -/
theorem perCentroid_apply {α : Type} (v : S1024.Idx → α) (t : Fin 131072) (j : Fin 1024) :
    broadcastInDim S131072x1024 ![0, 1] bcast_S1x1024_S131072x1024_0_1
      (broadcastInDim S1x1024 ![1] bcast_S1024_S1x1024_1 v) (ix2 t j) = v (ix1 j) := by
  refine (broadcastInDim_apply _ _ _ _ (ix2 0 j) ?_).trans (broadcastInDim_apply _ _ _ _ (ix1 j) ?_)
  · intro a
    match a with
    | ⟨0, _⟩ => rfl
    | ⟨1, _⟩ => rfl
  · intro a
    match a with
    | ⟨0, _⟩ => rfl

/-- The squared lengths of the rows of an array of tokens. -/
theorem lengthsT_apply (x : Vec Ideal S131072x128 .f32) (t : Fin 131072) :
    Host.reduceAdd (F := Ideal) (φ := .f32) (mulf x x) (constant S_ .f32 0x00000000#32) reducesTo_S131072x128_S131072_d1 h_S_ (ix1 t)
      = ∑ l, row x t l * row x t l := by
  have h : Shape.Reduces S131072x128 [1] S131072 := by decide
  refine (Ideal.hostReduceAdd_single reducesTo_S131072x128_S131072_d1 h _ _ (ix1 t)).trans ?_
  show Ideal.ofBits .f32 0x00000000#32 + _ = _
  rw [Ideal.ofBits_zero_f32, zero_add]
  refine Finset.sum_congr rfl fun (l : Fin 128) _ => ?_
  have hl : h.lift (ix1 t) l = ix2 t l := by
    funext a
    match a with
    | ⟨0, _⟩ => rfl
    | ⟨1, _⟩ => rfl
  exact congrArg (fun i => x i * x i) hl

/-- The squared lengths of the centroids. -/
theorem lengthsC_apply (c : Vec Ideal S1024x128 .f32) (j : Fin 1024) :
    Host.reduceAdd (F := Ideal) (φ := .f32) (mulf c c) (constant S_ .f32 0x00000000#32) reducesTo_S1024x128_S1024_d1 h_S_ (ix1 j)
      = ∑ l, row c j l * row c j l := by
  have h : Shape.Reduces S1024x128 [1] S1024 := by decide
  refine (Ideal.hostReduceAdd_single reducesTo_S1024x128_S1024_d1 h _ _ (ix1 j)).trans ?_
  show Ideal.ofBits .f32 0x00000000#32 + _ = _
  rw [Ideal.ofBits_zero_f32, zero_add]
  refine Finset.sum_congr rfl fun (l : Fin 128) _ => ?_
  have hl : h.lift (ix1 j) l = ix2 j l := by
    funext a
    match a with
    | ⟨0, _⟩ => rfl
    | ⟨1, _⟩ => rfl
  exact congrArg (fun i => c i * c i) hl

/-- The products of the tokens and the centroids. -/
theorem cross_apply (x : Vec Ideal S131072x128 .f32) (c : Vec Ideal S1024x128 .f32) (t : Fin 131072) (j : Fin 1024) :
    Host.dotGeneral (F := Ideal) (φ₁ := .f32) (φ₂ := .f32) dot_S131072x128_S128x1024_S131072x1024_1_0_0_1_n_n none x
      (transpose S128x1024 [1, 0] c transposes_S1024x128_S128x1024_1_0) (ix2 t j) = ∑ l, row x t l * row c j l := by
  simp only [Host.dotGeneral]
  refine (Ideal.dotGeneral_apply _ _ _ _ _ _).trans ((sum_contr _ 128 rfl rfl _).trans ?_)
  refine Finset.sum_congr rfl fun l _ => ?_
  congr 1
  · refine congrArg x ?_
    funext a
    match a with
    | ⟨0, _⟩ => rfl
    | ⟨1, _⟩ => rfl
  · refine transpose_apply _ _ _ _ (ix2 j l) ?_
    intro b
    match b with
    | ⟨0, _⟩ => rfl
    | ⟨1, _⟩ => rfl

/-- A constant spread over the pairs of a token and a centroid. -/
theorem splat_apply (w : BitVec 32) (i : S131072x1024.Idx) :
    broadcastInDim S131072x1024 ![] bcast_S_S131072x1024 (constant (F := Ideal) S_ .f32 w) i = Ideal.ofBits .f32 w := rfl

/-- The distances, at an index. -/
theorem dist_apply (x : Vec Ideal S131072x128 .f32) (c : Vec Ideal S1024x128 .f32) (t : Fin 131072) (j : Fin 1024) :
    dist x c (ix2 t j) = fullDist (row x t) (row c) j := by
  have e : ∀ v : FVec Ideal S131072x1024 .f32, Host.sqrt v (ix2 t j) = Ideal.sqrt (v (ix2 t j)) := fun _ => rfl
  unfold dist
  rw [e, maximumf_apply, subf_apply, addf_apply, mulf_apply, splat_apply, splat_apply, perToken_apply, perCentroid_apply,
    lengthsT_apply, lengthsC_apply, cross_apply]
  rfl

end Cert.Proof.Ref

end
-- ==== Proof.RefPlace.lean ====
/-
  The place of each token's least distance in the reference, at the extended reals: the first nearest centroid.
-/
module

public import proofs.«01_k».proof.Proof.RefRun
public import proofs.«01_k».proof.Proof.Nearest
public import Idealize.ShloMosaic.Lib.ValueIdx
public import Idealize.ShloMosaic.Lib.ValueIdxRank1
public import Idealize.ShloMosaic.Lib.Pipeline.Value

@[expose] public section

noncomputable section

open Idealize.ShloMosaic Idealize.ShloMosaic.ValueIdx
open scoped Classical

namespace Cert.Proof.Ref

open Cert.ReferenceIdeal Cert.ReferenceIdeal.Gen Cert.Proof.Nearest

/-! ## The nearest centroid -/

/-- The step of the scan picks the earlier of its two pairs. -/
theorem argmin_picks : Picks (reducer_argmin_f32_i32 (F := Ideal)) := by
  rintro ⟨a, i⟩ ⟨b, j⟩
  rcases lt_trichotomy a b with h | h | h
  · have e : reducer_argmin_f32_i32 (F := Ideal) (a, i) (b, j) = (a, i) := by
      simp [reducer_argmin_f32_i32, Ideal.cmpf_def, Ideal.cmp, h, h.ne, IntOp.ori, IntOp.andi, Scalar.select]
    rw [e]
    exact ⟨Or.inl rfl, Before.refl _, Or.inl h⟩
  · subst h
    by_cases hi : i.slt j
    · have e : reducer_argmin_f32_i32 (F := Ideal) (a, i) (a, j) = (a, i) := by
        simp [reducer_argmin_f32_i32, Ideal.cmpf_def, Ideal.cmp, IntOp.ori, IntOp.andi, IntOp.cmpi, Scalar.select, hi]
      rw [e]
      refine ⟨Or.inl rfl, Before.refl _, Or.inr ⟨rfl, ?_⟩⟩
      have : i.toInt < j.toInt := by simpa [BitVec.slt] using hi
      exact this.le
    · have e : reducer_argmin_f32_i32 (F := Ideal) (a, i) (a, j) = (a, j) := by
        simp [reducer_argmin_f32_i32, Ideal.cmpf_def, Ideal.cmp, IntOp.ori, IntOp.andi, IntOp.cmpi, Scalar.select, hi]
      rw [e]
      refine ⟨Or.inr rfl, Or.inr ⟨rfl, ?_⟩, Before.refl _⟩
      have : ¬ i.toInt < j.toInt := by simpa [BitVec.slt] using hi
      exact not_lt.1 this
  · have e : reducer_argmin_f32_i32 (F := Ideal) (a, i) (b, j) = (b, j) := by
      simp [reducer_argmin_f32_i32, Ideal.cmpf_def, Ideal.cmp, not_lt.2 h.le, h.ne', IntOp.ori, IntOp.andi, Scalar.select]
    rw [e]
    exact ⟨Or.inr rfl, Or.inl h, Before.refl _⟩

/-- The pairs a scan over one axis goes through, at any shape: the array's entries along the axis. -/
theorem mem_fiber_axis {α β : Type} {s t : Shape} {a : Fin s.rank} (h' : s.ReducesTo [a] t) (h : s.Reduces [a] t)
    (x : s.Idx → α) (y : s.Idx → β) (j : t.Idx) (p : α × β) :
    p ∈ Host.argReduceFiber x y h' j ↔ ∃ k : Fin (s.size a), p = (x (h.lift j k), y (h.lift j k)) := by
  unfold Host.argReduceFiber
  rw [List.mem_map]
  constructor
  · rintro ⟨n, hn, rfl⟩
    have hd := of_decide_eq_true (List.mem_filter.1 hn).2
    rw [Shape.ReducesTo.drop_eq_drop h' h] at hd
    have hi := h.lift_drop (s.rowMajor.symm n)
    rw [hd] at hi
    exact ⟨(s.rowMajor.symm n) a, by rw [hi]⟩
  · rintro ⟨k, rfl⟩
    refine ⟨s.rowMajor (h.lift j k), List.mem_filter.2 ⟨List.mem_finRange _, ?_⟩, ?_⟩
    · apply decide_eq_true
      rw [Equiv.symm_apply_apply, Shape.ReducesTo.drop_eq_drop h' h]
      exact h.drop_lift _ _
    · rw [Equiv.symm_apply_apply]

/-- One index of a token and a centroid, inserted by the reduction over the centroids. -/
theorem lift_token (h : Shape.Reduces S131072x1024 [1] S131072) (t : Fin 131072) (k : Fin 1024) : h.lift (ix1 t) k = ix2 t k := by
  funext a
  match a with
  | ⟨0, _⟩ => rfl
  | ⟨1, _⟩ => rfl

/-- The pairs the scan of token `t` goes through: each column's distance and number. -/
theorem mem_fiber (d : Vec Ideal S131072x1024 .f32) (t : Fin 131072) (p : EReal × BitVec 32) :
    p ∈ Host.argReduceFiber d (iotaInDim S131072x1024 32 1) reducesTo_S131072x1024_S131072_d1 (ix1 t)
      ↔ ∃ k : Fin 1024, p = (d (ix2 t k), BitVec.ofNat 32 k.val) := by
  have h : Shape.Reduces S131072x1024 [1] S131072 := by decide
  refine (mem_fiber_axis reducesTo_S131072x1024_S131072_d1 h d (iotaInDim S131072x1024 32 1) (ix1 t) p).trans ?_
  refine exists_congr fun (k : Fin 1024) => ?_
  have e : (d (h.lift (ix1 t) k), iotaInDim S131072x1024 32 1 (h.lift (ix1 t) k)) = (d (ix2 t k), BitVec.ofNat 32 k.val) :=
    congrArg (fun i : S131072x1024.Idx => (d i, BitVec.ofNat 32 (i 1).val)) (lift_token h t k)
  rw [← e]

/-- A scan over one axis from the largest value and 0, at any shape: the first least column. -/
theorem scan_first {s t u : Shape} {a : Fin s.rank} {op : EReal × BitVec 32 → EReal × BitVec 32 → EReal × BitVec 32} (hop : Picks op)
    (x : FVec Ideal s .f32) (y : s.Idx → BitVec 32) (ix : FVec Ideal u .f32) (iy : u.Idx → BitVec 32) (h' : s.ReducesTo [a] t)
    (hu : 0 < u.numel) (j : t.Idx) (f : Fin 1024 → EReal) (hx : ix (Shape.Idx.first hu) = (⊤ : EReal)) (hy : iy (Shape.Idx.first hu) = 0#32)
    (q : t.Idx → BitVec 32) (hq : q = fun j => (Host.argReduce (F := Ideal) (φ := .f32) op x y ix iy h' hu j).2)
    (hL : ∀ p : EReal × BitVec 32, p ∈ Host.argReduceFiber x y h' j ↔ ∃ k : Fin 1024, p = (f k, BitVec.ofNat 32 k.val)) :
    q j = BitVec.ofNat 32 (first f).val := by
  rw [hq]
  beta_reduce
  rw [Ideal.argReduce_eq_reduce2, Host.reduce2_eq_foldl_fiber, hx, hy]
  exact foldl_first hop f _ hL

/-- The place of a token's least distance: the first nearest centroid. -/
theorem place_apply (d : Vec Ideal S131072x1024 .f32) (t : Fin 131072) :
    place d (ix1 t) = BitVec.ofNat 32 (first fun k => d (ix2 t k)).val := by
  have hq : place d = fun j => (Host.argReduce (F := Ideal) (φ := .f32) reducer_argmin_f32_i32 d (iotaInDim S131072x1024 32 1)
    (constant S_ .f32 0x7F800000#32) (constantI S_ 32 0#32) reducesTo_S131072x1024_S131072_d1 h_S_ j).2 := rfl
  exact scan_first argmin_picks d (iotaInDim S131072x1024 32 1) (constant S_ .f32 0x7F800000#32) (constantI S_ 32 0#32)
    reducesTo_S131072x1024_S131072_d1 h_S_ (ix1 t) (fun k => d (ix2 t k)) ofBits_inf rfl (place d) hq (mem_fiber d t)

end Cert.Proof.Ref

end
-- ==== Proof.RefScatter.lean ====
/-
  The reference's counts and sums per cluster and its averaged centroids, at the extended reals, read at an index.
-/
module

public import proofs.«01_k».proof.Proof.RefRun
public import proofs.«01_k».proof.Proof.Nearest
public import Idealize.ShloMosaic.Lib.ValueIdx
public import Idealize.ShloMosaic.Lib.ValueIdxRank1
public import Idealize.ShloMosaic.Lib.Pipeline.Value

@[expose] public section

noncomputable section

open Idealize.ShloMosaic Idealize.ShloMosaic.ValueIdx
open scoped Classical

namespace Cert.Proof.Ref

open Cert.ReferenceIdeal Cert.ReferenceIdeal.Gen Cert.Proof.Nearest

/-! ## Where an update lands -/

section Lands
variable {N K L : Nat}

/-- The dimension numbers of a scatter of `N` numbers into `K` places. -/
abbrev numbersDims (h : ScatterDims.WF ⟨1, ![K]⟩ ⟨2, ![N, 1]⟩ ⟨1, ![N]⟩ [] [0] [0] 1) :
    ScatterDims ⟨1, ![K]⟩ ⟨2, ![N, 1]⟩ ⟨1, ![N]⟩ where
  updateWindowDims := []
  insertedWindowDims := [0]
  scatterDimsToOperandDims := [0]
  indexVectorDim := 1
  wf := h

/-- The dimension numbers of a scatter of `N` rows of `L` entries into `K` rows. -/
abbrev rowsDims (h : ScatterDims.WF ⟨2, ![K, L]⟩ ⟨2, ![N, 1]⟩ ⟨2, ![N, L]⟩ [1] [0] [0] 1) :
    ScatterDims ⟨2, ![K, L]⟩ ⟨2, ![N, 1]⟩ ⟨2, ![N, L]⟩ where
  updateWindowDims := [1]
  insertedWindowDims := [0]
  scatterDimsToOperandDims := [0]
  indexVectorDim := 1
  wf := h

/-- A number lands at the place its index word names. -/
theorem numbers_land (h : ScatterDims.WF ⟨1, ![K]⟩ ⟨2, ![N, 1]⟩ ⟨1, ![N]⟩ [] [0] [0] 1) (idx : IVec ⟨2, ![N, 1]⟩ 32)
    (t : Fin N) (j : Fin K) :
    (numbersDims h).resultIdx? (ix1 t) idx = some (ix1 j) ↔ (idx (ix2 t 0)).toInt = (j.val : ℤ) := by
  have hw : (numbersDims h).window (ix1 t) 0 = 0 := rfl
  have hs : (numbersDims h).start (ix1 t) idx 0 = (idx (ix2 t 0)).toInt := by
    have hi : (numbersDims h).siIdx (ix1 t) ⟨0, Nat.zero_lt_one⟩ = ix2 t 0 := by
      funext b
      match b with
      | ⟨0, _⟩ => rfl
      | ⟨1, _⟩ => rfl
    rw [← hi]
    rfl
  unfold ScatterDims.resultIdx?
  constructor
  · intro e
    split at e
    · rename_i hb
      have e0 := congrArg Fin.val (congrFun (Option.some.inj e) 0)
      have hb0 := hb 0
      simp only [hs, hw] at e0 hb0
      have : (((idx (ix2 t 0)).toInt + ((0 : ℕ) : ℤ)).toNat : ℕ) = j.val := e0
      omega
    · exact absurd e (by simp)
  · intro e
    have hj := j.isLt
    have hb : ∀ a, 0 ≤ (numbersDims h).start (ix1 t) idx a + (numbersDims h).window (ix1 t) a
        ∧ (numbersDims h).start (ix1 t) idx a + (numbersDims h).window (ix1 t) a < (⟨1, ![K]⟩ : Shape).size a := by
      intro a
      match a with
      | ⟨0, _⟩ =>
        show 0 ≤ (numbersDims h).start (ix1 t) idx 0 + (numbersDims h).window (ix1 t) 0
          ∧ (numbersDims h).start (ix1 t) idx 0 + (numbersDims h).window (ix1 t) 0 < ((K : ℕ) : ℤ)
        rw [hs, hw]
        omega
    rw [dif_pos hb]
    refine congrArg some ?_
    funext a
    apply Fin.ext
    match a with
    | ⟨0, _⟩ =>
      show ((numbersDims h).start (ix1 t) idx 0 + (numbersDims h).window (ix1 t) 0).toNat = j.val
      rw [hs, hw]
      omega

/-- A row's entry lands in the row its index word names, in its own column. -/
theorem rows_land (h : ScatterDims.WF ⟨2, ![K, L]⟩ ⟨2, ![N, 1]⟩ ⟨2, ![N, L]⟩ [1] [0] [0] 1) (idx : IVec ⟨2, ![N, 1]⟩ 32)
    (t : Fin N) (j : Fin K) (l l' : Fin L) :
    (rowsDims h).resultIdx? (ix2 t l') idx = some (ix2 j l) ↔ (idx (ix2 t 0)).toInt = (j.val : ℤ) ∧ l' = l := by
  have hw0 : (rowsDims h).window (ix2 t l') 0 = 0 := rfl
  have hw1 : (rowsDims h).window (ix2 t l') 1 = l'.val := rfl
  have hs0 : (rowsDims h).start (ix2 t l') idx 0 = (idx (ix2 t 0)).toInt := by
    have hi : (rowsDims h).siIdx (ix2 t l') ⟨0, Nat.zero_lt_one⟩ = ix2 t 0 := by
      funext b
      match b with
      | ⟨0, _⟩ => rfl
      | ⟨1, _⟩ => rfl
    rw [← hi]
    rfl
  have hs1 : (rowsDims h).start (ix2 t l') idx 1 = 0 := rfl
  unfold ScatterDims.resultIdx?
  constructor
  · intro e
    split at e
    · rename_i hb
      have e0 := congrArg Fin.val (congrFun (Option.some.inj e) 0)
      have e1 := congrArg Fin.val (congrFun (Option.some.inj e) 1)
      have hb0 := hb 0
      simp only [hs0, hw0, hs1, hw1] at e0 e1 hb0
      have e0' : (((idx (ix2 t 0)).toInt + ((0 : ℕ) : ℤ)).toNat : ℕ) = j.val := e0
      have e1' : ((0 + ((l'.val : ℕ) : ℤ)).toNat : ℕ) = l.val := e1
      exact ⟨by omega, Fin.ext (by omega)⟩
    · exact absurd e (by simp)
  · rintro ⟨e, rfl⟩
    have hj := j.isLt
    have hl := l'.isLt
    have hb : ∀ a, 0 ≤ (rowsDims h).start (ix2 t l') idx a + (rowsDims h).window (ix2 t l') a
        ∧ (rowsDims h).start (ix2 t l') idx a + (rowsDims h).window (ix2 t l') a < (⟨2, ![K, L]⟩ : Shape).size a := by
      intro a
      match a with
      | ⟨0, _⟩ =>
        show 0 ≤ (rowsDims h).start (ix2 t l') idx 0 + (rowsDims h).window (ix2 t l') 0
          ∧ (rowsDims h).start (ix2 t l') idx 0 + (rowsDims h).window (ix2 t l') 0 < ((K : ℕ) : ℤ)
        rw [hs0, hw0]
        omega
      | ⟨1, _⟩ =>
        show 0 ≤ (rowsDims h).start (ix2 t l') idx 1 + (rowsDims h).window (ix2 t l') 1
          ∧ (rowsDims h).start (ix2 t l') idx 1 + (rowsDims h).window (ix2 t l') 1 < ((L : ℕ) : ℤ)
        rw [hs1, hw1]
        omega
    rw [dif_pos hb]
    refine congrArg some ?_
    funext a
    apply Fin.ext
    match a with
    | ⟨0, _⟩ =>
      show ((rowsDims h).start (ix2 t l') idx 0 + (rowsDims h).window (ix2 t l') 0).toNat = j.val
      rw [hs0, hw0]
      omega
    | ⟨1, _⟩ =>
      show ((rowsDims h).start (ix2 t l') idx 1 + (rowsDims h).window (ix2 t l') 1).toNat = l'.val
      rw [hs1, hw1]
      omega

/-- A scatter of numbers adds to each place the numbers whose index word names it. -/
theorem numbers_sum (h : ScatterDims.WF ⟨1, ![K]⟩ ⟨2, ![N, 1]⟩ ⟨1, ![N]⟩ [] [0] [0] 1) (z : (⟨1, ![K]⟩ : Shape).Idx → EReal)
    (idx : IVec ⟨2, ![N, 1]⟩ 32) (u : (⟨1, ![N]⟩ : Shape).Idx → EReal) (j : Fin K) :
    Ideal.hostScatterAdd (numbersDims h) z idx u (ix1 j)
      = z (ix1 j) + ∑ t : Fin N, if (idx (ix2 t 0)).toInt = (j.val : ℤ) then u (ix1 t) else 0 := by
  unfold Ideal.hostScatterAdd
  congr 1
  rw [Finset.sum_filter, ← Equiv.sum_comp (idxEquiv1 (n := N)).symm]
  refine Finset.sum_congr rfl fun t _ => ?_
  show (if (numbersDims h).resultIdx? (ix1 t) idx = some (ix1 j) then u (ix1 t) else 0) = _
  simp only [numbers_land]

/-- A scatter of rows adds to each row the rows whose index word names it. -/
theorem rows_sum (h : ScatterDims.WF ⟨2, ![K, L]⟩ ⟨2, ![N, 1]⟩ ⟨2, ![N, L]⟩ [1] [0] [0] 1) (z : (⟨2, ![K, L]⟩ : Shape).Idx → EReal)
    (idx : IVec ⟨2, ![N, 1]⟩ 32) (u : (⟨2, ![N, L]⟩ : Shape).Idx → EReal) (j : Fin K) (l : Fin L) :
    Ideal.hostScatterAdd (rowsDims h) z idx u (ix2 j l)
      = z (ix2 j l) + ∑ t : Fin N, if (idx (ix2 t 0)).toInt = (j.val : ℤ) then u (ix2 t l) else 0 := by
  unfold Ideal.hostScatterAdd
  congr 1
  rw [Finset.sum_filter, sum_idx2]
  refine Finset.sum_congr rfl fun t _ => ?_
  simp only [rows_land]
  by_cases he : (idx (ix2 t 0)).toInt = (j.val : ℤ)
  · simp [he]
  · simp [he]

end Lands

/-! ## Counts and sums -/

/-- The column of places the scatters read, at an index. -/
theorem column_apply (p : Vec Ideal S131072 .i32) (t : Fin 131072) :
    broadcastInDim S131072x1 ![0] bcast_S131072_S131072x1_0 p (ix2 t 0) = p (ix1 t) := by
  refine broadcastInDim_apply _ _ _ _ (ix1 t) ?_
  intro a
  match a with
  | ⟨0, _⟩ => rfl

/-- The count of a cluster: one for every token whose place is the cluster. -/
theorem counts_apply (p : Vec Ideal S131072 .i32) (a : Fin 131072 → Fin 1024) (hp : ∀ t, p (ix1 t) = BitVec.ofNat 32 (a t).val)
    (j : Fin 1024) : counts p (ix1 j) = ∑ t : Fin 131072, if a t = j then (1 : EReal) else 0 := by
  have e : counts p (ix1 j) = Ideal.hostScatterAdd (numbersDims scatter_S1024_S131072x1_S131072_n_0_0_1.wf)
    (broadcastInDim S1024 ![] bcast_S_S1024 (constant (F := Ideal) S_ .f32 0x00000000#32))
    (broadcastInDim S131072x1 ![0] bcast_S131072_S131072x1_0 p)
    (broadcastInDim S131072 ![] bcast_S_S131072 (constant (F := Ideal) S_ .f32 0x3F800000#32)) (ix1 j) := rfl
  refine (e.trans (numbers_sum _ _ _ _ _)).trans ?_
  show Ideal.ofBits .f32 0x00000000#32 + _ = _
  rw [Ideal.ofBits_zero_f32, zero_add]
  refine Finset.sum_congr rfl fun t _ => ?_
  rw [column_apply, hp, toInt_small (a t).isLt.le]
  show (if ((a t).val : ℤ) = (j.val : ℤ) then Ideal.ofBits .f32 0x3F800000#32 else 0) = _
  rw [ofBits_one]
  simp only [Nat.cast_inj, Fin.ext_iff]

/-- The sum of a cluster: the rows of the tokens whose place is the cluster. -/
theorem sums_apply (p : Vec Ideal S131072 .i32) (a : Fin 131072 → Fin 1024) (hp : ∀ t, p (ix1 t) = BitVec.ofNat 32 (a t).val)
    (x : Vec Ideal S131072x128 .f32) (j : Fin 1024) (l : Fin 128) :
    sums p x (ix2 j l) = ∑ t : Fin 131072, if a t = j then row x t l else 0 := by
  have e : sums p x (ix2 j l) = Ideal.hostScatterAdd (rowsDims scatter_S1024x128_S131072x1_S131072x128_1_0_0_1.wf)
    (broadcastInDim S1024x128 ![] bcast_S_S1024x128 (constant (F := Ideal) S_ .f32 0x00000000#32))
    (broadcastInDim S131072x1 ![0] bcast_S131072_S131072x1_0 p) x (ix2 j l) := rfl
  refine (e.trans (rows_sum _ _ _ _ _ _)).trans ?_
  show Ideal.ofBits .f32 0x00000000#32 + _ = _
  rw [Ideal.ofBits_zero_f32, zero_add]
  refine Finset.sum_congr rfl fun t _ => ?_
  rw [column_apply, hp, toInt_small (a t).isLt.le]
  simp only [Nat.cast_inj, Fin.ext_iff]
  rfl

/-! ## The averaged centroids -/

/-- A number per cluster, spread over the cluster's entries. -/
theorem perCluster_apply {α : Type} (v : S1024.Idx → α) (j : Fin 1024) (l : Fin 128) :
    broadcastInDim S1024x128 ![0, 1] bcast_S1024x1_S1024x128_0_1
      (broadcastInDim S1024x1 ![0] bcast_S1024_S1024x1_0 v) (ix2 j l) = v (ix1 j) := by
  refine (broadcastInDim_apply _ _ _ _ (ix2 j 0) ?_).trans (broadcastInDim_apply _ _ _ _ (ix1 j) ?_)
  · intro a
    match a with
    | ⟨0, _⟩ => rfl
    | ⟨1, _⟩ => rfl
  · intro a
    match a with
    | ⟨0, _⟩ => rfl

/-- A centroid's entry after the update, at an index. -/
theorem updated_apply (n : Vec Ideal S1024 .f32) (s c : Vec Ideal S1024x128 .f32) (j : Fin 1024) (l : Fin 128) :
    updated n s c (ix2 j l) = moved (n (ix1 j)) (s (ix2 j l)) (c (ix2 j l)) := by
  unfold updated
  rw [select_apply, perCluster_apply, addf_apply, mulf_apply, mulf_apply]
  have e : ∀ v w : FVec Ideal S1024x128 .f32, Host.divf v w (ix2 j l) = Ideal.div (v (ix2 j l)) (w (ix2 j l)) := fun _ _ => rfl
  rw [e, perCluster_apply]
  rfl

end Cert.Proof.Ref

end
-- ==== Proof.Predicates.lean ====
/-
  What the two preconditions and the mask say, read at an index: that keys and key centroids are finite, that each
  token has one nearest centroid, and that a cluster is nearest to no token that the reference gives to another.
-/
module

public import proofs.«01_k».proof.Proof.Gen.Pre_one_nearest
public import proofs.«01_k».proof.Proof.Gen.Pre_finite
public import proofs.«01_k».proof.Proof.Gen.On_untied
public import proofs.«01_k».proof.Proof.RefDist
public import proofs.«01_k».proof.Proof.RefPlace
public import proofs.«01_k».proof.Proof.RefScatter
public import Idealize.ShloMosaic.PureOps.Reduce

@[expose] public section

noncomputable section

open Idealize.ShloMosaic Idealize.ShloMosaic.ValueIdx
open scoped Classical

namespace Cert.Proof.Predicates

open Cert.ReferenceIdeal Cert.ReferenceIdeal.Gen Cert.Proof.Nearest Cert.Proof.Ref

/-! ## Finite entries -/

/-- A value whose absolute value is below the largest one is a real number. -/
theorem real_of_lt (a : EReal) (h : Ideal.cmp .olt (max a (-a)) (Ideal.ofBits .f32 0x7F800000#32) = 1#1) : ∃ r : ℝ, a = (r : EReal) := by
  rw [ofBits_inf] at h
  induction a with
  | bot => simp [Ideal.cmp] at h
  | coe r => exact ⟨r, rfl⟩
  | top => simp [Ideal.cmp] at h

/-- Every token's row of a finite array is real. -/
theorem real_rows (x : Vec Ideal S4x16x2048x128 .f32)
    (h : ∀ i, Ideal.cmp .olt (max (x i) (-(x i))) (Ideal.ofBits .f32 0x7F800000#32) = 1#1) (t : Fin 131072) (l : Fin 128) :
    ∃ r : ℝ, row (rows x) t l = (r : EReal) :=
  real_of_lt _ (h _)

/-! ## The least distances -/

/-- The host's minimum over one axis from the largest value, at any shape. -/
theorem minimum_axis {s t u : Shape} {a : Fin s.rank} (x : FVec Ideal s .f32) (init : FVec Ideal u .f32) (h' : s.ReducesTo [a] t)
    (h : s.Reduces [a] t) (hu : 0 < u.numel) (hi : init (Shape.Idx.first hu) = (⊤ : EReal)) (j : t.Idx) :
    Host.reduce (FloatOps.minimumf (F := Ideal) (φ := .f32)) x init h' hu j
      = (Finset.univ : Finset (Fin (s.size a))).fold min (⊤ : EReal) (x ∘ h.lift j) := by
  rw [Host.reduce_eq_fold_single _ x init h' h hu, hi]
  rfl

/-- The least distance of every token. -/
def least (d : Vec Ideal S131072x1024 .f32) : Vec Ideal S131072 .f32 :=
  Host.reduce (FloatOps.minimumf (F := Ideal) (φ := .f32)) d (constant (F := Ideal) S_ .f32 0x7F800000#32) reducesTo_S131072x1024_S131072_d1 h_S_

/-- The least distance of a token is the minimum along its row. -/
theorem least_apply (d : Vec Ideal S131072x1024 .f32) (t : Fin 131072) :
    least d (ix1 t) = (Finset.univ : Finset (Fin 1024)).fold min (⊤ : EReal) (fun k => d (ix2 t k)) := by
  have h : Shape.Reduces S131072x1024 [1] S131072 := by decide
  refine (minimum_axis d (constant (F := Ideal) S_ .f32 0x7F800000#32) reducesTo_S131072x1024_S131072_d1 h h_S_ ofBits_inf (ix1 t)).trans ?_
  exact congrArg (fun f : Fin 1024 → EReal => (Finset.univ : Finset (Fin 1024)).fold min (⊤ : EReal) f)
    (funext fun k => congrArg d (lift_token h t k))

/-- A token's value, spread over the centroids. -/
abbrev spread {α : Type} (v : S131072.Idx → α) : S131072x1024.Idx → α :=
  broadcastInDim S131072x1024 ![0, 1] bcast_S131072x1_S131072x1024_0_1 (broadcastInDim S131072x1 ![0] bcast_S131072_S131072x1_0 v)

/-- A spread value, at an index, is the token's. -/
theorem spread_apply {α : Type} (v : S131072.Idx → α) (t : Fin 131072) (j : Fin 1024) : spread v (ix2 t j) = v (ix1 t) :=
  perToken_apply v t j

/-- A distance equals the token's least one where the centroid is nearest. -/
theorem equals_least (d : Vec Ideal S131072x1024 .f32) (t : Fin 131072) (j : Fin 1024) :
    d (ix2 t j) = spread (least d) (ix2 t j) ↔ IsNearest (fun k => d (ix2 t k)) j := by
  rw [spread_apply, least_apply]
  exact eq_fold_min_iff (fun k => d (ix2 t k)) j

/-! ## One nearest centroid -/

/-- How many centroids are nearest, for every token. -/
def nearestCount (d : Vec Ideal S131072x1024 .f32) : Vec Ideal S131072 .f32 :=
  Host.reduceAdd (F := Ideal) (φ := .f32) (uitofp .f32 (cmpf (F := Ideal) (φ := .f32) .oeq d (spread (least d))))
    (constant S_ .f32 0x00000000#32) reducesTo_S131072x1024_S131072_d1 h_S_

/-- The count of a token: one for every nearest centroid. -/
theorem nearestCount_apply (d : Vec Ideal S131072x1024 .f32) (t : Fin 131072) :
    nearestCount d (ix1 t) = ∑ j : Fin 1024, if IsNearest (fun k => d (ix2 t k)) j then (1 : EReal) else 0 := by
  have h : Shape.Reduces S131072x1024 [1] S131072 := by decide
  refine (Ideal.hostReduceAdd_single reducesTo_S131072x1024_S131072_d1 h _ _ (ix1 t)).trans ?_
  show Ideal.ofBits .f32 0x00000000#32 + _ = _
  rw [Ideal.ofBits_zero_f32, zero_add]
  refine Finset.sum_congr rfl fun (j : Fin 1024) _ => ?_
  refine (congrArg (uitofp (F := Ideal) .f32 (cmpf (F := Ideal) (φ := .f32) .oeq d (spread (least d)))) (lift_token h t j)).trans ?_
  show (((Ideal.cmp .oeq (d (ix2 t j)) (spread (least d) (ix2 t j))).toNat : ℝ) : EReal) = _
  by_cases hn : IsNearest (fun k => d (ix2 t k)) j
  · rw [(cmp_oeq_iff _ _).2 ((equals_least d t j).2 hn), if_pos hn]
    simp
  · rw [eq_zero_of_ne_one fun e => hn ((equals_least d t j).1 ((cmp_oeq_iff _ _).1 e)), if_neg hn]
    simp

/-- The third array of `one_nearest`: whether a token has one nearest centroid. -/
theorem one_nearest_count (x y : Vec Ideal S4x16x2048x128 .f32) (c v : Vec Ideal S1024x128 .f32) :
    (Cert.Pre_one_nearest.fn (F := Ideal) x y c v).2.2 = cmpf (F := Ideal) (φ := .f32) .oeq (nearestCount (dist (rows x) c))
      (broadcastInDim S131072 ![] bcast_S_S131072 (constant S_ .f32 0x3F800000#32)) := by
  unfold Cert.Pre_one_nearest.fn Cert.Pre_one_nearest.fn_part1 nearestCount least Ref.dist rows
  rfl

/-- What `one_nearest` says: keys and key centroids are real, and each token has one nearest centroid. -/
theorem one_nearest_reads (x y : Vec Ideal S4x16x2048x128 .f32) (c v : Vec Ideal S1024x128 .f32)
    (h0 : (Cert.Pre_one_nearest.fn (F := Ideal) x y c v).1 = fun _ => 1#1)
    (h1 : (Cert.Pre_one_nearest.fn (F := Ideal) x y c v).2.1 = fun _ => 1#1)
    (h2 : (Cert.Pre_one_nearest.fn (F := Ideal) x y c v).2.2 = fun _ => 1#1) :
    (∀ t l, ∃ r : ℝ, row (rows x) t l = (r : EReal)) ∧ (∀ j l, ∃ r : ℝ, row c j l = (r : EReal))
      ∧ ∀ t j, IsNearest (fullDist (row (rows x) t) (row c)) j ↔ first (fullDist (row (rows x) t) (row c)) = j := by
  refine ⟨real_rows x fun i => congrFun h0 i, fun j l => real_of_lt _ (congrFun h1 (ix2 j l)), fun t j => ?_⟩
  have hd : (fun k => dist (rows x) c (ix2 t k)) = fullDist (row (rows x) t) (row c) := funext fun k => dist_apply _ _ _ _
  have e := congrFun ((one_nearest_count x y c v).symm.trans h2) (ix1 t)
  have b : broadcastInDim S131072 ![] bcast_S_S131072 (constant (F := Ideal) S_ .f32 0x3F800000#32) (ix1 t)
    = Ideal.ofBits .f32 0x3F800000#32 := rfl
  rw [cmpf_apply, b, Ideal.cmpf_def, cmp_oeq_iff, nearestCount_apply, ofBits_one, hd] at e
  exact ⟨fun hn => nearest_eq_first _ e j hn, fun hf => hf ▸ (first_spec _).1⟩

/-- What `finite` says: keys and key centroids are real. -/
theorem finite_reads (x y : Vec Ideal S4x16x2048x128 .f32) (c v : Vec Ideal S1024x128 .f32)
    (h0 : (Cert.Pre_finite.fn (F := Ideal) x y c v).1 = fun _ => 1#1)
    (h1 : (Cert.Pre_finite.fn (F := Ideal) x y c v).2 = fun _ => 1#1) :
    (∀ t l, ∃ r : ℝ, row (rows x) t l = (r : EReal)) ∧ (∀ j l, ∃ r : ℝ, row c j l = (r : EReal)) :=
  ⟨real_rows x fun i => congrFun h0 i, fun j l => real_of_lt _ (congrFun h1 (ix2 j l))⟩

/-! ## The untied clusters -/

/-- A conjunction of two bits holds only where both do. -/
theorem andi_eq_one (a b : BitVec 1) (h : IntOp.andi a b = 1#1) : a = 1#1 ∧ b = 1#1 := by
  revert a b; decide

/-- A disjunction of two bits holds only where one does. -/
theorem ori_eq_one (a b : BitVec 1) (h : IntOp.ori a b = 1#1) : a = 1#1 ∨ b = 1#1 := by
  revert a b; decide

/-- A conjunction over one axis holds only where every entry along the axis does, at any shape. -/
theorem all_axis {s t u : Shape} {a : Fin s.rank} (x : IVec s 1) (init : IVec u 1) (h' : s.ReducesTo [a] t) (h : s.Reduces [a] t)
    (hu : 0 < u.numel) (j : t.Idx) (e : Host.reduce IntOp.andi x init h' hu j = 1#1) (k : Fin (s.size a)) : x (h.lift j k) = 1#1 := by
  rw [Host.reduce_eq_fold_single _ x init h' h hu] at e
  have key : ∀ S : Finset (Fin (s.size a)), S.fold IntOp.andi (init (Shape.Idx.first hu)) (x ∘ h.lift j) = 1#1 →
      ∀ k ∈ S, x (h.lift j k) = 1#1 := by
    intro S
    induction S using Finset.induction_on with
    | empty => intro _ k hk; exact absurd hk (Finset.notMem_empty k)
    | insert b S hb ih =>
      intro hf k hk
      rw [Finset.fold_insert hb] at hf
      have := andi_eq_one _ _ hf
      rcases Finset.mem_insert.1 hk with rfl | hk
      · exact this.1
      · exact ih this.2 k hk
  exact key _ e k (Finset.mem_univ k)

/-- The mask's argmin is the reference's place. -/
theorem argmin_eq (d : Vec Ideal S131072x1024 .f32) : Cert.On_untied.fn_argmin (F := Ideal) d = place d := by
  unfold Cert.On_untied.fn_argmin place
  rfl

/-- For every token and centroid: the centroid is not nearest, or it is the token's place. -/
def settled (d : Vec Ideal S131072x1024 .f32) : IVec S131072x1024 1 :=
  ori (cmpf (F := Ideal) (φ := .f32) .une d (spread (least d))) (cmpi .eq (iotaInDim S131072x1024 32 1) (spread (Cert.On_untied.fn_argmin (F := Ideal) d)))

/-- A centroid that is settled with a token and nearest to it is its first nearest centroid. -/
theorem settled_apply (d : Vec Ideal S131072x1024 .f32) (t : Fin 131072) (j : Fin 1024) (h : settled d (ix2 t j) = 1#1)
    (hn : IsNearest (fun k => d (ix2 t k)) j) : first (fun k => d (ix2 t k)) = j := by
  have hs : IntOp.ori (Ideal.cmp .une (d (ix2 t j)) (spread (least d) (ix2 t j)))
      (IntOp.cmpi .eq (BitVec.ofNat 32 j.val) (spread (Cert.On_untied.fn_argmin (F := Ideal) d) (ix2 t j))) = 1#1 := h
  rcases ori_eq_one _ _ hs with e | e
  · rw [← (equals_least d t j).2 hn] at e
    simp [Ideal.cmp] at e
  · rw [spread_apply, argmin_eq, place_apply] at e
    have e' : BitVec.ofNat 32 j.val = BitVec.ofNat 32 (first fun k => d (ix2 t k)).val := by
      by_contra hne
      simp only [IntOp.cmpi, beq_eq_false_iff_ne.2 hne] at e
      exact absurd e (by decide)
    have := congrArg BitVec.toInt e'
    rw [toInt_small j.isLt.le, toInt_small (first fun k => d (ix2 t k)).isLt.le] at this
    exact Fin.ext (by omega)

/-- One index of a centroid and a token, inserted by the reduction over the tokens. -/
theorem lift_centroid (h : Shape.Reduces S131072x1024 [0] S1024) (t : Fin 131072) (k : Fin 1024) : h.lift (ix1 k) t = ix2 t k := by
  funext a
  match a with
  | ⟨0, _⟩ => rfl
  | ⟨1, _⟩ => rfl

/-- Whether a centroid is settled with every token. -/
def untiedClusters (d : Vec Ideal S131072x1024 .f32) : IVec S1024 1 :=
  Host.reduce IntOp.andi (settled d) (constantI S_ 1 1#1) Cert.On_untied.Facts.reducesTo_S131072x1024_S1024_d0 h_S_

/-- An untied centroid is settled with every token. -/
theorem untiedClusters_apply (d : Vec Ideal S131072x1024 .f32) (j : Fin 1024) (e : untiedClusters d (ix1 j) = 1#1) (t : Fin 131072) :
    settled d (ix2 t j) = 1#1 := by
  have h : Shape.Reduces S131072x1024 [0] S1024 := by decide
  have := all_axis (settled d) (constantI S_ 1 1#1) Cert.On_untied.Facts.reducesTo_S131072x1024_S1024_d0 h h_S_ (ix1 j) e t
  exact (congrArg (settled d) (lift_centroid h t j)).symm.trans this

/-- The mask of the second and third results: a centroid's entries are set where the centroid is untied. -/
theorem mask_eq (x y : Vec Ideal S4x16x2048x128 .f32) (c v : Vec Ideal S1024x128 .f32) :
    (Cert.On_untied.fn (F := Ideal) x y c v).2 = (broadcastInDim S1024x128 ![0, 1] bcast_S1024x1_S1024x128_0_1
        (broadcastInDim S1024x1 ![0] bcast_S1024_S1024x1_0 (untiedClusters (dist (rows x) c))),
      broadcastInDim S1024x128 ![0, 1] bcast_S1024x1_S1024x128_0_1
        (broadcastInDim S1024x1 ![0] bcast_S1024_S1024x1_0 (untiedClusters (dist (rows x) c)))) := by
  unfold Cert.On_untied.fn Cert.On_untied.fn_part1 untiedClusters settled least Ref.dist rows
  rfl

/-- An entry set in the second result's mask is an untied centroid's. -/
theorem mask_keys (x y : Vec Ideal S4x16x2048x128 .f32) (c v : Vec Ideal S1024x128 .f32) (j : Fin 1024) (l : Fin 128)
    (h : (Cert.On_untied.fn (F := Ideal) x y c v).2.1 (ix2 j l) = 1#1) : untiedClusters (dist (rows x) c) (ix1 j) = 1#1 := by
  rw [mask_eq] at h
  dsimp only at h
  rw [perCluster_apply] at h
  exact h

/-- An entry set in the third result's mask is an untied centroid's. -/
theorem mask_vals (x y : Vec Ideal S4x16x2048x128 .f32) (c v : Vec Ideal S1024x128 .f32) (j : Fin 1024) (l : Fin 128)
    (h : (Cert.On_untied.fn (F := Ideal) x y c v).2.2 (ix2 j l) = 1#1) : untiedClusters (dist (rows x) c) (ix1 j) = 1#1 := by
  rw [mask_eq] at h
  dsimp only at h
  rw [perCluster_apply] at h
  exact h

/-- Where the mask of the second or third result is set, the centroid is nearest to the tokens placed with it only. -/
theorem untied_reads (d : Vec Ideal S131072x1024 .f32) (x : Vec Ideal S131072x128 .f32) (c : Vec Ideal S1024x128 .f32)
    (hd : d = dist x c) (j : Fin 1024) (e : untiedClusters d (ix1 j) = 1#1) (t : Fin 131072) :
    IsNearest (fullDist (row x t) (row c)) j ↔ first (fullDist (row x t) (row c)) = j := by
  have hf : (fun k => d (ix2 t k)) = fullDist (row x t) (row c) := hd ▸ funext fun k => dist_apply _ _ _ _
  refine ⟨fun hn => ?_, fun hf => hf ▸ (first_spec _).1⟩
  rw [← hf] at hn ⊢
  exact settled_apply d t j (untiedClusters_apply d j e t) hn

end Cert.Proof.Predicates

end
-- ==== Proof.Cases.lean ====
/-
  What one grid point of the idealized k-means kernel leaves in its output blocks and in the scratch buffers that
  it carries, for each of the three kinds of points (the first, an inner one, the last), as the named payloads of
  the kernel's stores.
-/
module

public import proofs.«01_k».proof.Proof.Gen.KernelIdeal.Value
public import Idealize.ShloMosaic.Lib.Pipeline.Value
public import Idealize.ShloMosaic.Lib.Tactic

@[expose] public section

noncomputable section

open Idealize.ShloMosaic Idealize.ShloMosaic.TcCoe Idealize.SL.Sem

namespace Cert.KernelIdeal.Cases

open Cert.KernelIdeal Cert.KernelIdeal.Gen

variable {F : FTy → Type} [FloatOps F]

/-- The two-axis index of zeros. -/
theorem zero2 : (![0, 0] : Fin 2 → Nat) = fun _ => 0 := funext fun a => by fin_cases a <;> rfl
/-- The three-axis index of zeros. -/
theorem zero3 : (![0, 0, 0] : Fin 3 → Nat) = fun _ => 0 := funext fun a => by fin_cases a <;> rfl

variable (c : Dev nD) (i : grid0.Coords)
  (a1 : Memref sig .tc .vmem S4096x128 .f32) (h1 : a1.IsWhole) (a2 : Memref sig .tc .vmem S4096x128 .f32) (h2 : a2.IsWhole)
  (a3 : Memref sig .tc .vmem S1024x128 .f32) (h3 : a3.IsWhole) (a4 : Memref sig .tc .vmem S1024x128 .f32) (h4 : a4.IsWhole)
  (a5 : Memref sig .tc .vmem S1x1x4096 .i32) (h5 : a5.IsWhole) (a6 : Memref sig .tc .vmem S1024x128 .f32) (h6 : a6.IsWhole)
  (a7 : Memref sig .tc .vmem S1024x128 .f32) (h7 : a7.IsWhole) (a8 : Memref sig .tc .vmem S1024x256 .f32) (h8 : a8.IsWhole)
  (a9 : Memref sig .tc .vmem S1024x128 .f32) (h9 : a9.IsWhole) (a10 : Memref sig .tc .vmem S1024x1 .f32) (h10 : a10.IsWhole)
  (a11 : Memref sig .tc .vmem S1024x1 .f32) (h11 : a11.IsWhole)
  (x0 x1 : Vec F S4096x128 .f32) (x2 x3 : Vec F S1024x128 .f32)
  (s0 : Vec F S1024x256 .f32) (s1 : Vec F S1024x128 .f32) (s2 s3 : Vec F S1024x1 .f32)

/-- An inner point writes the indices of its tokens' clusters. -/
theorem idx_B (hc0 : ¬cond0_0 i) (hc1 : ¬cond0_1 i) :
    out0_B_4 c i a1 h1 a2 h2 a3 h3 a4 h4 a5 h5 a6 h6 a7 h7 a8 h8 a9 h9 a10 h10 a11 h11 hc0 hc1 x0 x1 x2 x3 s0 s1 s2 s3
      = k0_pay13 x0 s1 s2 := by
  unfold out0_B_4
  rw [View.read_writes_eq_canon _ _ _ (cover0_B_4 c i a1 h1 a2 h2 a3 h3 a4 h4 a5 h5 a6 h6 a7 h7 a8 h8 a9 h9 a10 h10 a11 h11 hc0 hc1 x0 x1 x2 x3 s0 s1 s2 s3)]
  unfold kernelRun0_B
  dsimp only
  sl_unfold_words
  rw [View.canon_unit_zero zero3]
  simp only [View.readAt_eq_ld, h1.read_unread, h9.read_unread, h10.read_unread, View.ld_unit_zero (S := S4096x128) zero2,
    View.ld_unit_zero (S := S1024x128) zero2, View.ld_unit_zero (S := S1024x1) zero2]

/-- An inner point adds its tokens' rows to the carried sums. -/
theorem acc_B (hc0 : ¬cond0_0 i) (hc1 : ¬cond0_1 i) :
    sout0_B_0 c i a1 h1 a2 h2 a3 h3 a4 h4 a5 h5 a6 h6 a7 h7 a8 h8 a9 h9 a10 h10 a11 h11 hc0 hc1 x0 x1 x2 x3 s0 s1 s2 s3
      = k0_pay14 x0 x1 s1 s2 s0 := by
  unfold sout0_B_0
  rw [View.read_writes_eq_canon _ _ _ (scover0_B_0 c i a1 h1 a2 h2 a3 h3 a4 h4 a5 h5 a6 h6 a7 h7 a8 h8 a9 h9 a10 h10 a11 h11 hc0 hc1 x0 x1 x2 x3 s0 s1 s2 s3)]
  unfold kernelRun0_B
  dsimp only
  sl_unfold_words
  rw [View.canon_unit_zero zero2]
  simp only [View.readAt_eq_ld, h1.read_unread, h2.read_unread, h8.read_unread, h9.read_unread, h10.read_unread, View.ld_unit_zero (S := S4096x128) zero2,
    View.ld_unit_zero (S := S1024x128) zero2, View.ld_unit_zero (S := S1024x1) zero2, View.ld_unit_zero (S := S1024x256) zero2]

/-- An inner point adds its tokens to the carried counts. -/
theorem cnt_B (hc0 : ¬cond0_0 i) (hc1 : ¬cond0_1 i) :
    sout0_B_3 c i a1 h1 a2 h2 a3 h3 a4 h4 a5 h5 a6 h6 a7 h7 a8 h8 a9 h9 a10 h10 a11 h11 hc0 hc1 x0 x1 x2 x3 s0 s1 s2 s3
      = k0_pay1 (k0_pay12 x0 s1 s2) s3 := by
  unfold sout0_B_3
  rw [View.read_writes_eq_canon _ _ _ (scover0_B_3 c i a1 h1 a2 h2 a3 h3 a4 h4 a5 h5 a6 h6 a7 h7 a8 h8 a9 h9 a10 h10 a11 h11 hc0 hc1 x0 x1 x2 x3 s0 s1 s2 s3)]
  unfold kernelRun0_B
  dsimp only
  sl_unfold_words
  rw [View.canon_unit_zero zero2]
  simp only [View.readAt_eq_ld, h1.read_unread, h11.read_unread, h9.read_unread, h10.read_unread, View.ld_unit_zero (S := S4096x128) zero2,
    View.ld_unit_zero (S := S1024x128) zero2, View.ld_unit_zero (S := S1024x1) zero2]

/-- The last point writes the indices of its tokens' clusters. -/
theorem idx_C (hc0 : ¬cond0_0 i) (hc1 : cond0_1 i) :
    out0_C_4 c i a1 h1 a2 h2 a3 h3 a4 h4 a5 h5 a6 h6 a7 h7 a8 h8 a9 h9 a10 h10 a11 h11 hc0 hc1 x0 x1 x2 x3 s0 s1 s2 s3
      = k0_pay13 x0 s1 s2 := by
  unfold out0_C_4
  rw [View.read_writes_eq_canon _ _ _ (cover0_C_4 c i a1 h1 a2 h2 a3 h3 a4 h4 a5 h5 a6 h6 a7 h7 a8 h8 a9 h9 a10 h10 a11 h11 hc0 hc1 x0 x1 x2 x3 s0 s1 s2 s3)]
  unfold kernelRun0_C
  dsimp only
  sl_unfold_words
  rw [View.canon_unit_zero zero3]
  simp only [View.readAt_eq_ld, h1.read_unread, h9.read_unread, h10.read_unread, View.ld_unit_zero (S := S4096x128) zero2,
    View.ld_unit_zero (S := S1024x128) zero2, View.ld_unit_zero (S := S1024x1) zero2]

/-- The last point writes the new key centroids, from the sums and counts that it has just completed. -/
theorem kc_C (hc0 : ¬cond0_0 i) (hc1 : cond0_1 i) :
    out0_C_5 c i a1 h1 a2 h2 a3 h3 a4 h4 a5 h5 a6 h6 a7 h7 a8 h8 a9 h9 a10 h10 a11 h11 hc0 hc1 x0 x1 x2 x3 s0 s1 s2 s3
      = k0_pay4 (k0_pay14 x0 x1 s1 s2 s0) (k0_pay1 (k0_pay12 x0 s1 s2) s3) x2 := by
  unfold out0_C_5
  rw [View.read_writes_eq_canon _ _ _ (cover0_C_5 c i a1 h1 a2 h2 a3 h3 a4 h4 a5 h5 a6 h6 a7 h7 a8 h8 a9 h9 a10 h10 a11 h11 hc0 hc1 x0 x1 x2 x3 s0 s1 s2 s3)]
  unfold kernelRun0_C
  dsimp only
  sl_unfold_words
  rw [View.canon_unit_zero zero2]
  simp only [View.readCov_unit_zero (S := S1024x256) _ zero2, View.readCov_unit_zero (S := S1024x1) _ zero2, View.readAt_eq_ld, h1.read_unread, h2.read_unread, h3.read_unread, h4.read_unread, h8.read_unread, h11.read_unread, h9.read_unread, h10.read_unread, View.ld_unit_zero (S := S4096x128) zero2,
    View.ld_unit_zero (S := S1024x128) zero2, View.ld_unit_zero (S := S1024x1) zero2, View.ld_unit_zero (S := S1024x256) zero2]

/-- The last point writes the new value centroids, from the sums and counts that it has just completed. -/
theorem vc_C (hc0 : ¬cond0_0 i) (hc1 : cond0_1 i) :
    out0_C_6 c i a1 h1 a2 h2 a3 h3 a4 h4 a5 h5 a6 h6 a7 h7 a8 h8 a9 h9 a10 h10 a11 h11 hc0 hc1 x0 x1 x2 x3 s0 s1 s2 s3
      = k0_pay5 (k0_pay14 x0 x1 s1 s2 s0) (k0_pay1 (k0_pay12 x0 s1 s2) s3) x3 := by
  unfold out0_C_6
  rw [View.read_writes_eq_canon _ _ _ (cover0_C_6 c i a1 h1 a2 h2 a3 h3 a4 h4 a5 h5 a6 h6 a7 h7 a8 h8 a9 h9 a10 h10 a11 h11 hc0 hc1 x0 x1 x2 x3 s0 s1 s2 s3)]
  unfold kernelRun0_C
  dsimp only
  sl_unfold_words
  rw [View.canon_unit_zero zero2]
  simp only [View.readCov_unit_zero (S := S1024x256) _ zero2, View.readCov_unit_zero (S := S1024x1) _ zero2, View.readAt_eq_ld, h1.read_unread, h2.read_unread, h3.read_unread, h4.read_unread, h8.read_unread, h11.read_unread, h9.read_unread, h10.read_unread, View.ld_unit_zero (S := S4096x128) zero2,
    View.ld_unit_zero (S := S1024x128) zero2, View.ld_unit_zero (S := S1024x1) zero2, View.ld_unit_zero (S := S1024x256) zero2]

/-- The first point keeps minus twice the key centroids. -/
theorem kc2_A (hc0 : cond0_0 i) (hc1 : ¬cond0_1 i) :
    sout0_A_1 c i a1 h1 a2 h2 a3 h3 a4 h4 a5 h5 a6 h6 a7 h7 a8 h8 a9 h9 a10 h10 a11 h11 hc0 hc1 x0 x1 x2 x3 = k0_pay8 x2 := by
  unfold sout0_A_1
  rw [View.read_writes_eq_canon _ _ _ (scover0_A_1 c i a1 h1 a2 h2 a3 h3 a4 h4 a5 h5 a6 h6 a7 h7 a8 h8 a9 h9 a10 h10 a11 h11 hc0 hc1 x0 x1 x2 x3)]
  unfold kernelRun0_A
  dsimp only
  sl_unfold_words
  rw [View.canon_unit_zero zero2]
  simp only [View.readAt_eq_ld, h3.read_unread, View.ld_unit_zero (S := S1024x128) zero2]

/-- The first point keeps the squared lengths of the key centroids. -/
theorem c2_A (hc0 : cond0_0 i) (hc1 : ¬cond0_1 i) :
    sout0_A_2 c i a1 h1 a2 h2 a3 h3 a4 h4 a5 h5 a6 h6 a7 h7 a8 h8 a9 h9 a10 h10 a11 h11 hc0 hc1 x0 x1 x2 x3 = k0_pay9 x2 := by
  unfold sout0_A_2
  rw [View.read_writes_eq_canon _ _ _ (scover0_A_2 c i a1 h1 a2 h2 a3 h3 a4 h4 a5 h5 a6 h6 a7 h7 a8 h8 a9 h9 a10 h10 a11 h11 hc0 hc1 x0 x1 x2 x3)]
  unfold kernelRun0_A
  dsimp only
  sl_unfold_words
  rw [View.canon_unit_zero zero2]
  simp only [View.readAt_eq_ld, h3.read_unread, View.ld_unit_zero (S := S1024x128) zero2]

/-- The first point writes the indices of its tokens' clusters. -/
theorem idx_A (hc0 : cond0_0 i) (hc1 : ¬cond0_1 i) :
    out0_A_4 c i a1 h1 a2 h2 a3 h3 a4 h4 a5 h5 a6 h6 a7 h7 a8 h8 a9 h9 a10 h10 a11 h11 hc0 hc1 x0 x1 x2 x3
      = k0_pay13 x0 (k0_pay8 x2) (k0_pay9 x2) := by
  unfold out0_A_4
  rw [View.read_writes_eq_canon _ _ _ (cover0_A_4 c i a1 h1 a2 h2 a3 h3 a4 h4 a5 h5 a6 h6 a7 h7 a8 h8 a9 h9 a10 h10 a11 h11 hc0 hc1 x0 x1 x2 x3)]
  unfold kernelRun0_A
  dsimp only
  sl_unfold_words
  rw [View.canon_unit_zero zero3]
  simp only [View.readCov_unit_zero (S := S1024x128) _ zero2, View.readCov_unit_zero (S := S1024x1) _ zero2, View.readAt_eq_ld, h1.read_unread, h3.read_unread, View.ld_unit_zero (S := S4096x128) zero2,
    View.ld_unit_zero (S := S1024x128) zero2]

/-- The first point starts the sums with its tokens' rows. -/
theorem acc_A (hc0 : cond0_0 i) (hc1 : ¬cond0_1 i) :
    sout0_A_0 c i a1 h1 a2 h2 a3 h3 a4 h4 a5 h5 a6 h6 a7 h7 a8 h8 a9 h9 a10 h10 a11 h11 hc0 hc1 x0 x1 x2 x3
      = k0_pay14 x0 x1 (k0_pay8 x2) (k0_pay9 x2) k0_pay6 := by
  unfold sout0_A_0
  rw [View.read_writes_eq_canon _ _ _ (scover0_A_0 c i a1 h1 a2 h2 a3 h3 a4 h4 a5 h5 a6 h6 a7 h7 a8 h8 a9 h9 a10 h10 a11 h11 hc0 hc1 x0 x1 x2 x3)]
  unfold kernelRun0_A
  dsimp only
  sl_unfold_words
  rw [View.canon_cons_unit_zero (S := S1024x256) zero2]
  simp only [View.readCov_unit_zero (S := S1024x256) _ zero2, View.readCov_unit_zero (S := S1024x128) _ zero2, View.readCov_unit_zero (S := S1024x1) _ zero2, View.readAt_eq_ld, h1.read_unread, h2.read_unread, h3.read_unread, View.ld_unit_zero (S := S4096x128) zero2,
    View.ld_unit_zero (S := S1024x128) zero2]

/-- The first point starts the counts with its tokens. -/
theorem cnt_A (hc0 : cond0_0 i) (hc1 : ¬cond0_1 i) :
    sout0_A_3 c i a1 h1 a2 h2 a3 h3 a4 h4 a5 h5 a6 h6 a7 h7 a8 h8 a9 h9 a10 h10 a11 h11 hc0 hc1 x0 x1 x2 x3
      = k0_pay1 (k0_pay12 x0 (k0_pay8 x2) (k0_pay9 x2)) k0_pay7 := by
  unfold sout0_A_3
  rw [View.read_writes_eq_canon _ _ _ (scover0_A_3 c i a1 h1 a2 h2 a3 h3 a4 h4 a5 h5 a6 h6 a7 h7 a8 h8 a9 h9 a10 h10 a11 h11 hc0 hc1 x0 x1 x2 x3)]
  unfold kernelRun0_A
  dsimp only
  sl_unfold_words
  rw [View.canon_cons_unit_zero (S := S1024x1) zero2]
  simp only [View.readCov_unit_zero (S := S1024x128) _ zero2, View.readCov_unit_zero (S := S1024x1) _ zero2, View.readAt_eq_ld, h1.read_unread, h3.read_unread, View.ld_unit_zero (S := S4096x128) zero2,
    View.ld_unit_zero (S := S1024x128) zero2]

end Cert.KernelIdeal.Cases

end
-- ==== Proof.Carried.lean ====
/-
  What the kernel's launch leaves, block by block: the scratch buffers after each grid point (minus twice the key
  centroids and their squared lengths, kept from the first point on; the running sums and counts), and from them the
  three result arrays. Everything is stated through the named payloads of the kernel's stores.
-/
module

public import proofs.«01_k».proof.Proof.Cases
public import Idealize.ShloMosaic.Lib.ValueIdxCore

@[expose] public section

noncomputable section

open Idealize.ShloMosaic Idealize.ShloMosaic.TcCoe Idealize.SL.Sem

namespace Cert.KernelIdeal.Carried

open Cert.KernelIdeal Cert.KernelIdeal.Gen Cert.KernelIdeal.Value

variable {F : FTy → Type} [FloatOps F]
variable (m : (ℓ : Loc nD τ sig) → Buf (Elt F) ℓ) (c : Dev nD)

/-- The key centroids, as the launch finds them. -/
abbrev keyC : Vec F S1024x128 .f32 := V m c main_arg2
/-- The value centroids, as the launch finds them. -/
abbrev valC : Vec F S1024x128 .f32 := V m c main_arg3
/-- The block of keys of grid point `t`. -/
abbrev keyB (t : Fin cfg0.N) : Vec F S4096x128 .f32 := iblk m c 0 t
/-- The block of values of grid point `t`. -/
abbrev valB (t : Fin cfg0.N) : Vec F S4096x128 .f32 := iblk m c 1 t

/-- Window 2's block is the whole array of key centroids at every point. -/
theorem iblk_keyC (t : Fin cfg0.N) : (iblk m c 2 t : Vec F S1024x128 .f32) = keyC m c := by
  have hi : win0_2.index t 0 = 0 ∧ win0_2.index t 1 = 0 := ⟨rfl, rfl⟩
  funext j
  unfold iblk
  rw [View.read_apply]
  show V m c main_arg2 _ = V m c main_arg2 j
  congr 1
  funext a
  apply Fin.ext
  match a with
  | ⟨0, _⟩ => show win0_2.index t 0 * 1024 + 1 * (j 0).val = (j 0).val; rw [hi.1]; omega
  | ⟨1, _⟩ => show win0_2.index t 1 * 128 + 1 * (j 1).val = (j 1).val; rw [hi.2]; omega

/-- Window 3's block is the whole array of value centroids at every point. -/
theorem iblk_valC (t : Fin cfg0.N) : (iblk m c 3 t : Vec F S1024x128 .f32) = valC m c := by
  have hi : win0_3.index t 0 = 0 ∧ win0_3.index t 1 = 0 := ⟨rfl, rfl⟩
  funext j
  unfold iblk
  rw [View.read_apply]
  show V m c main_arg3 _ = V m c main_arg3 j
  congr 1
  funext a
  apply Fin.ext
  match a with
  | ⟨0, _⟩ => show win0_3.index t 0 * 1024 + 1 * (j 0).val = (j 0).val; rw [hi.1]; omega
  | ⟨1, _⟩ => show win0_3.index t 1 * 128 + 1 * (j 1).val = (j 1).val; rw [hi.2]; omega

/-- The running sums after point `n`. -/
def sums : (n : ℕ) → n < cfg0.N → Vec F S1024x256 .f32
  | 0, h => k0_pay14 (keyB m c ⟨0, h⟩) (valB m c ⟨0, h⟩) (k0_pay8 (keyC m c)) (k0_pay9 (keyC m c)) k0_pay6
  | n + 1, h => k0_pay14 (keyB m c ⟨n + 1, h⟩) (valB m c ⟨n + 1, h⟩) (k0_pay8 (keyC m c)) (k0_pay9 (keyC m c))
      (sums n (Nat.lt_of_succ_lt h))

/-- The running counts after point `n`. -/
def cnts : (n : ℕ) → n < cfg0.N → Vec F S1024x1 .f32
  | 0, h => k0_pay1 (k0_pay12 (keyB m c ⟨0, h⟩) (k0_pay8 (keyC m c)) (k0_pay9 (keyC m c))) k0_pay7
  | n + 1, h => k0_pay1 (k0_pay12 (keyB m c ⟨n + 1, h⟩) (k0_pay8 (keyC m c)) (k0_pay9 (keyC m c)))
      (cnts n (Nat.lt_of_succ_lt h))

/-- The scaled centroids and their squared lengths, written at the first point, stay to the last. -/
theorem kept (n : ℕ) (hn : n < cfg0.N) :
    (outsAt0 m c n hn).2.2.2.2.1 = k0_pay8 (keyC m c) ∧ (outsAt0 m c n hn).2.2.2.2.2.1 = k0_pay9 (keyC m c) := by
  have hN : cfg0.N = 32 := N_0
  induction n with
  | zero =>
    have e := outsAt0_A m c ⟨0, hn⟩ rfl (show ¬0 % 32 = 31 by decide)
    have e1 := congrArg (fun x => x.2.2.2.2.1) e
    dsimp only at e1
    rw [Cases.kc2_A] at e1
    have e2 := congrArg (fun x => x.2.2.2.2.2.1) e
    dsimp only at e2
    rw [Cases.c2_A] at e2
    rw [iblk_keyC] at e1 e2
    exact ⟨e1, e2⟩
  | succ n ih =>
    have h0 : ¬(n + 1) % 32 = 0 := by omega
    have ih := ih (Nat.lt_of_succ_lt hn)
    by_cases h1 : (n + 1) % 32 = 31
    · have e := outsAt0_C m c ⟨n + 1, hn⟩ h0 h1
      have e1 := congrArg (fun x => x.2.2.2.2.1) e
      have e2 := congrArg (fun x => x.2.2.2.2.2.1) e
      dsimp only [sout0_C_1] at e1
      dsimp only [sout0_C_2] at e2
      exact ⟨e1.trans ih.1, e2.trans ih.2⟩
    · have e := outsAt0_B m c ⟨n + 1, hn⟩ h0 h1
      have e1 := congrArg (fun x => x.2.2.2.2.1) e
      have e2 := congrArg (fun x => x.2.2.2.2.2.1) e
      dsimp only [sout0_B_1] at e1
      dsimp only [sout0_B_2] at e2
      exact ⟨e1.trans ih.1, e2.trans ih.2⟩

/-- Before the last point the carried buffers hold the running sums and counts. -/
theorem carried (n : ℕ) (hn : n < cfg0.N) (hl : n < 31) :
    (outsAt0 m c n hn).2.2.2.1 = sums m c n hn ∧ (outsAt0 m c n hn).2.2.2.2.2.2 = cnts m c n hn := by
  have hN : cfg0.N = 32 := N_0
  induction n with
  | zero =>
    have e := outsAt0_A m c ⟨0, hn⟩ rfl (show ¬0 % 32 = 31 by decide)
    have e1 := congrArg (fun x => x.2.2.2.1) e
    dsimp only at e1
    rw [Cases.acc_A] at e1
    have e2 := congrArg (fun x => x.2.2.2.2.2.2) e
    dsimp only at e2
    rw [Cases.cnt_A] at e2
    rw [iblk_keyC] at e1 e2
    exact ⟨e1, e2⟩
  | succ n ih =>
    have h0 : ¬(n + 1) % 32 = 0 := by omega
    have h1 : ¬(n + 1) % 32 = 31 := by omega
    have ih := ih (Nat.lt_of_succ_lt hn) (by omega)
    have hk := kept m c n (Nat.lt_of_succ_lt hn)
    have e := outsAt0_B m c ⟨n + 1, hn⟩ h0 h1
    have e1 := congrArg (fun x => x.2.2.2.1) e
    dsimp only at e1
    rw [Cases.acc_B] at e1
    have e2 := congrArg (fun x => x.2.2.2.2.2.2) e
    dsimp only at e2
    rw [Cases.cnt_B] at e2
    simp only [Nat.add_sub_cancel, hk.1, hk.2, ih.1, ih.2] at e1 e2
    exact ⟨e1, e2⟩

/-- Every point writes the indices of its own tokens' clusters. -/
theorem index_block (n : ℕ) (hn : n < cfg0.N) :
    (outsAt0 m c n hn).1 = k0_pay13 (keyB m c ⟨n, hn⟩) (k0_pay8 (keyC m c)) (k0_pay9 (keyC m c)) := by
  have hN : cfg0.N = 32 := N_0
  cases n with
  | zero =>
    have e := outsAt0_A m c ⟨0, hn⟩ rfl (show ¬0 % 32 = 31 by decide)
    have e1 := congrArg (fun x => x.1) e
    dsimp only at e1
    rw [Cases.idx_A] at e1
    rw [iblk_keyC] at e1
    exact e1
  | succ n =>
    have h0 : ¬(n + 1) % 32 = 0 := by omega
    have hk := kept m c n (Nat.lt_of_succ_lt hn)
    by_cases h1 : (n + 1) % 32 = 31
    · have e := outsAt0_C m c ⟨n + 1, hn⟩ h0 h1
      have e1 := congrArg (fun x => x.1) e
      dsimp only at e1
      rw [Cases.idx_C] at e1
      simp only [Nat.add_sub_cancel, hk.1, hk.2] at e1
      exact e1
    · have e := outsAt0_B m c ⟨n + 1, hn⟩ h0 h1
      have e1 := congrArg (fun x => x.1) e
      dsimp only at e1
      rw [Cases.idx_B] at e1
      simp only [Nat.add_sub_cancel, hk.1, hk.2] at e1
      exact e1

/-- The grid has a point 31. -/
theorem lt31 : 31 < cfg0.N := lt_of_lt_of_eq (by decide) N_0.symm

/-- The last point writes the new centroids, from the complete sums and counts. -/
theorem final_blocks :
    (outsAt0 m c 31 lt31).2.1 = k0_pay4 (sums m c 31 lt31) (cnts m c 31 lt31) (keyC m c)
      ∧ (outsAt0 m c 31 lt31).2.2.1 = k0_pay5 (sums m c 31 lt31) (cnts m c 31 lt31) (valC m c) := by
  have h30 : 30 < cfg0.N := Nat.lt_of_succ_lt lt31
  have hk := kept m c 30 h30
  have ih := carried m c 30 h30 (by decide)
  have e := outsAt0_C m c ⟨31, lt31⟩ (show ¬31 % 32 = 0 by decide) rfl
  have e1 := congrArg (fun x => x.2.1) e
  dsimp only at e1
  rw [Cases.kc_C] at e1
  have e2 := congrArg (fun x => x.2.2.1) e
  dsimp only at e2
  rw [Cases.vc_C] at e2
  simp only [show 31 - 1 = 30 from rfl, hk.1, hk.2, ih.1, ih.2, iblk_keyC, iblk_valC] at e1 e2
  exact ⟨e1, e2⟩

/-- The second result, the new key centroids. -/
theorem G5_eq : G5 m c = k0_pay4 (sums m c 31 lt31) (cnts m c 31 lt31) (keyC m c) := by
  rw [G5_last, ← outsAt0_sweep]
  exact (final_blocks m c).1

/-- The third result, the new value centroids. -/
theorem G6_eq : G6 m c = k0_pay5 (sums m c 31 lt31) (cnts m c 31 lt31) (valC m c) := by
  rw [G6_last, ← outsAt0_sweep]
  exact (final_blocks m c).2

/-- The first result at block `b`, place `t`: what point `b` wrote there. -/
theorem G4_eq (b : Fin 32) (t : Fin 4096) :
    G4 m c (Idealize.ShloMosaic.ValueIdx.ix3 b (0 : Fin 1) t)
      = k0_pay13 (keyB m c ⟨b.val, lt_of_lt_of_eq b.isLt N_0.symm⟩) (k0_pay8 (keyC m c)) (k0_pay9 (keyC m c))
          (Idealize.ShloMosaic.ValueIdx.ix3 (0 : Fin 1) (0 : Fin 1) t) := by
  have hb : b.val < cfg0.N := lt_of_lt_of_eq b.isLt N_0.symm
  have hp : pt4Of (Idealize.ShloMosaic.ValueIdx.ix3 b (0 : Fin 1) t) = b.val := by
    show 1 * (b.val / 1 - 0) + 1 * (0 / 1 - 0) + 1 * (t.val / 4096 - 0) = b.val
    have := t.isLt
    omega
  have hl : loc4Of (Idealize.ShloMosaic.ValueIdx.ix3 b (0 : Fin 1) t) = Idealize.ShloMosaic.ValueIdx.ix3 (0 : Fin 1) (0 : Fin 1) t := by
    funext a
    apply Fin.ext
    match a with
    | ⟨0, _⟩ => show b.val % 1 = 0; omega
    | ⟨1, _⟩ => rfl
    | ⟨2, _⟩ => show t.val % 4096 = t.val; exact Nat.mod_eq_of_lt t.isLt
  unfold G4
  rw [dif_pos (by rw [hp]; exact hb), ← index_block, outsAt0_sweep, hl]
  exact congrFun (congrArg Prod.fst (fold0_congr m c _ _ _ _ hp)) _

end Cert.KernelIdeal.Carried

end
-- ==== Proof.Payload.lean ====
/-
  One block of the kernel, at the extended reals, read at an index: the shortened distances, the columns that are
  least, the first of them, and what the block adds to the running sums and counts.
-/
module

public import proofs.«01_k».proof.Proof.Gen.KernelIdeal.Skeleton
public import proofs.«01_k».proof.Proof.Nearest
public import Idealize.ShloMosaic.Lib.ValueIdx
public import Idealize.ShloMosaic.Lib.Pipeline.Value

@[expose] public section

noncomputable section

open Idealize.ShloMosaic Idealize.ShloMosaic.ValueIdx
open scoped Classical

namespace Cert.KernelIdeal.Payload

open Cert.KernelIdeal Cert.KernelIdeal.Gen Cert.Proof.Nearest

/-! ## The distances of a block -/

/-- The kernel's distances of a block `x` of tokens from the centroids `c`. -/
def short (x : Vec Ideal S4096x128 .f32) (c : Vec Ideal S1024x128 .f32) : FVec Ideal S1024x4096 .f32 :=
  addf (broadcastTo S1024x4096 (k0_pay9 c) broadcasts_S1024x1_S1024x4096)
    (matmul dot_S1024x128_S4096x128_S1024x4096_1_1_0_0_n_n none (k0_pay8 c) (k0_pay10 x)
      (constant S1024x4096 .f32 0x00000000#32))

/-- Minus twice the centroids, at an index. -/
theorem pay8_apply (c : Vec Ideal S1024x128 .f32) (j : Fin 1024) (l : Fin 128) :
    k0_pay8 c (ix2 j l) = row c j l * Ideal.ofBits .f32 0xC0000000#32 :=
  shapeCast_apply (t := S1024x128) (mulf (F := Ideal) (φ := .f32) c (broadcast S1024x128 (Scalar.ofBits (F := Ideal) .f32 0xC0000000#32)))
    shapeCasts_S1024x128_S1024x128 (ix2 j l) (ix2 j l) rfl

/-- The squared lengths of the centroids, at an index. -/
theorem pay9_apply (c : Vec Ideal S1024x128 .f32) (j : Fin 1024) (z : Fin 1) :
    k0_pay9 c (ix2 j z) = ∑ l, row c j l * row c j l := by
  have e1 : k0_pay9 c (ix2 j z) = multiReduction .add [1] S1024 (mulf c c) 0x00000000#32 reduces_S1024x128_S1024 (.inl rfl) rfl (ix1 j) := by
    have h2 := shapeCast_apply (t := S1024x1) (shapeCast S1024x1 (multiReduction .add [1] S1024 (mulf (F := Ideal) (φ := .f32) c c) 0x00000000#32
      reduces_S1024x128_S1024 (.inl rfl) rfl) shapeCasts_S1024_S1024x1) shapeCasts_S1024x1_S1024x1 (ix2 j z) (ix2 j z) rfl
    have h1 := shapeCast_apply (t := S1024x1) (multiReduction .add [1] S1024 (mulf (F := Ideal) (φ := .f32) c c) 0x00000000#32
      reduces_S1024x128_S1024 (.inl rfl) rfl) shapeCasts_S1024_S1024x1 (ix2 j z) (ix1 j) (by
        rw [Shape.rowMajor_val_one, Shape.rowMajor_val_two]
        show j.val = j.val * 1 + z.val
        omega)
    exact h2.trans h1
  refine e1.trans ((Ideal.multiReduction_add_single _ _ _ _ _ _).trans ?_)
  refine Finset.sum_congr rfl fun (l : Fin 128) _ => ?_
  have : reduces_S1024x128_S1024.lift (ix1 j) l = ix2 j l := by
    funext a
    match a with
    | ⟨0, _⟩ => rfl
    | ⟨1, _⟩ => rfl
  rw [this]
  rfl

/-- The block's distances, at an index. -/
theorem short_apply (x : Vec Ideal S4096x128 .f32) (c : Vec Ideal S1024x128 .f32) (j : Fin 1024) (t : Fin 4096) :
    short x c (ix2 j t) = shortDist (row x t) (row c) j := by
  have e1 : broadcastTo S1024x4096 (k0_pay9 c) broadcasts_S1024x1_S1024x4096 (ix2 j t) = ∑ l, row c j l * row c j l := by
    refine (broadcastTo_apply _ _ _ (ix2 j 0) ?_).trans (pay9_apply c j 0)
    intro a
    match a with
    | ⟨0, _⟩ => rfl
    | ⟨1, _⟩ => rfl
  have e2 : matmul dot_S1024x128_S4096x128_S1024x4096_1_1_0_0_n_n none (k0_pay8 c) (k0_pay10 x)
      (constant S1024x4096 .f32 0x00000000#32) (ix2 j t) = ∑ l, row c j l * Ideal.ofBits .f32 0xC0000000#32 * row x t l := by
    simp only [matmul]
    rw [Ideal.matmul_constant_zero_apply, sum_contr _ 128 rfl rfl]
    refine Finset.sum_congr rfl fun l _ => ?_
    congr 1
    · refine Eq.trans (congrArg (k0_pay8 c) ?_) (pay8_apply c j l)
      funext a
      match a with
      | ⟨0, _⟩ => rfl
      | ⟨1, _⟩ => rfl
    · refine (shapeCast_apply _ _ _ _ rfl).trans (congrArg x ?_)
      funext a
      match a with
      | ⟨0, _⟩ => rfl
      | ⟨1, _⟩ => rfl
  show _ + _ = _
  rw [e1, e2]
  rfl

/-! ## The least columns -/

/-- The block's comparison with the minimum, at an index: whether the centroid is a nearest one of the token. -/
theorem pay11_iff (x : Vec Ideal S4096x128 .f32) (c : Vec Ideal S1024x128 .f32) (j : Fin 1024) (t : Fin 4096) :
    k0_pay11 x (k0_pay8 c) (k0_pay9 c) (ix2 j t) = 1#1 ↔ IsNearest (shortDist (row x t) (row c)) j := by
  have e1 : broadcastTo S1024x4096 (shapeCast S1x4096 (multiReduction .minimumf [0] S4096 (short x c) 0x7F800000#32
      reduces_S1024x4096_S4096 (.inl rfl) rfl) shapeCasts_S4096_S1x4096) broadcasts_S1x4096_S1024x4096 (ix2 j t)
      = Finset.univ.fold min ⊤ fun k => short x c (ix2 k t) := by
    refine (broadcastTo_apply _ _ _ (ix2 0 t) ?_).trans ?_
    · intro a
      match a with
      | ⟨0, _⟩ => rfl
      | ⟨1, _⟩ => rfl
    refine (shapeCast_apply _ _ _ (ix1 t) ?_).trans ?_
    · rw [Shape.rowMajor_val_one, Shape.rowMajor_val_two]
      show t.val = 0 * 4096 + t.val
      omega
    refine (multiReduction_minimumf_eq_fold _ _ _ _ _ _).trans ((reduces_S1024x4096_S4096.fold_filter_drop_single _ _ _ _).trans ?_)
    show Finset.univ.fold min (Ideal.ofBits .f32 0x7F800000#32) _ = _
    rw [ofBits_inf]
    have hl : ∀ k : Fin 1024, reduces_S1024x4096_S4096.lift (ix1 t) k = ix2 k t := by
      intro k
      funext a
      match a with
      | ⟨0, _⟩ => rfl
      | ⟨1, _⟩ => rfl
    exact congrArg (Finset.univ.fold min ⊤) (funext fun k : Fin 1024 => congrArg (short x c) (hl k))
  have e2 : k0_pay11 x (k0_pay8 c) (k0_pay9 c) (ix2 j t)
      = Ideal.cmp .oeq (short x c (ix2 j t)) (Finset.univ.fold min ⊤ fun k => short x c (ix2 k t)) := by
    rw [← e1]; rfl
  rw [e2, cmp_oeq_iff]
  refine (eq_fold_min_iff (fun k => short x c (ix2 k t)) j).trans ?_
  simp only [short_apply]

/-- One for a nearest centroid, zero for another. -/
theorem pay12_apply (x : Vec Ideal S4096x128 .f32) (c : Vec Ideal S1024x128 .f32) (j : Fin 1024) (t : Fin 4096) :
    k0_pay12 x (k0_pay8 c) (k0_pay9 c) (ix2 j t) = if IsNearest (shortDist (row x t) (row c)) j then (1 : EReal) else 0 := by
  have e : k0_pay12 x (k0_pay8 c) (k0_pay9 c) (ix2 j t)
      = FloatOps.sitofp (F := Ideal) .f32 ((k0_pay11 x (k0_pay8 c) (k0_pay9 c) (ix2 j t)).setWidth 32) := rfl
  rw [e]
  by_cases h : IsNearest (shortDist (row x t) (row c)) j
  · rw [(pay11_iff x c j t).2 h, if_pos h]
    show ((((1#1).setWidth 32).toInt : ℝ) : EReal) = ((1 : ℝ) : EReal)
    norm_num
  · rw [eq_zero_of_ne_one (fun h1 => h ((pay11_iff x c j t).1 h1)), if_neg h]
    show ((((0#1).setWidth 32).toInt : ℝ) : EReal) = ((0 : ℝ) : EReal)
    norm_num

/-- A nearest centroid's number, or 1024 for another centroid, at every pair of a centroid and a token. -/
def places (x : Vec Ideal S4096x128 .f32) (c : Vec Ideal S1024x128 .f32) : IVec S1024x4096 32 :=
  select (k0_pay11 x (k0_pay8 c) (k0_pay9 c)) (iota .tc S1024x4096 32 [0] iota_S1024x4096_d0_w32) (broadcast S1024x4096 1024#32)

/-- The block of places, at an index: the first nearest centroid of the token. -/
theorem pay13_apply (x : Vec Ideal S4096x128 .f32) (c : Vec Ideal S1024x128 .f32) (t : Fin 4096) :
    k0_pay13 x (k0_pay8 c) (k0_pay9 c) (ix3 0 0 t) = BitVec.ofNat 32 (first (shortDist (row x t) (row c))).val := by
  have e1 : k0_pay13 x (k0_pay8 c) (k0_pay9 c) (ix3 0 0 t)
      = multiReductionI .minsi [0] S4096 (places x c) 2147483647#32 reduces_S1024x4096_S4096 rfl (ix1 t) := by
    have h3 := shapeCast_apply (t := S1x1x4096) (shapeCast S1x4096
      (multiReductionI .minsi [0] S4096 (places x c) 2147483647#32 reduces_S1024x4096_S4096 rfl) shapeCasts_S4096_S1x4096)
      shapeCasts_S1x4096_S1x1x4096 (ix3 0 0 t) (ix2 0 t) (by
        rw [Shape.rowMajor_val_two, Shape.rowMajor_val_three]
        show 0 * 4096 + t.val = (0 * 1 + 0) * 4096 + t.val
        omega)
    have h2 := shapeCast_apply (t := S1x4096)
      (multiReductionI .minsi [0] S4096 (places x c) 2147483647#32 reduces_S1024x4096_S4096 rfl) shapeCasts_S4096_S1x4096
      (ix2 0 t) (ix1 t) (by
        rw [Shape.rowMajor_val_one, Shape.rowMajor_val_two]
        show t.val = 0 * 4096 + t.val
        omega)
    exact (show _ from h3).trans h2
  refine e1.trans ((multiReductionI_eq_fold _ _ _ _ _ _).trans ((reduces_S1024x4096_S4096.fold_filter_drop_single _ _ _ _).trans ?_))
  refine fold_minsi_first _ _ ?_ ?_
  · intro j hj
    have hl : reduces_S1024x4096_S4096.lift (ix1 t) j = ix2 j t := by
      funext a
      match a with
      | ⟨0, _⟩ => rfl
      | ⟨1, _⟩ => rfl
    refine (congrArg (places x c) hl).trans ?_
    rw [places, select_apply, (pay11_iff x c j t).2 hj, select_one]
    show BitVec.ofNat 32 (0 * 1024 + j.val) = _
    rw [Nat.zero_mul, Nat.zero_add]
  · intro j hj
    have hl : reduces_S1024x4096_S4096.lift (ix1 t) j = ix2 j t := by
      funext a
      match a with
      | ⟨0, _⟩ => rfl
      | ⟨1, _⟩ => rfl
    refine (congrArg (places x c) hl).trans ?_
    rw [places, select_apply, eq_zero_of_ne_one (fun h1 => hj ((pay11_iff x c j t).1 h1)), select_zero]
    rfl

/-! ## What a block adds -/

/-- The counts after a block: the ones before, plus the tokens the centroid is a nearest one of. -/
theorem pay1_apply (x : Vec Ideal S4096x128 .f32) (c : Vec Ideal S1024x128 .f32) (n : Vec Ideal S1024x1 .f32) (j : Fin 1024) :
    k0_pay1 (k0_pay12 x (k0_pay8 c) (k0_pay9 c)) n (ix2 j 0)
      = n (ix2 j 0) + ∑ t : Fin 4096, if IsNearest (shortDist (row x t) (row c)) j then (1 : EReal) else 0 := by
  have e1 : shapeCast S1024x1 (multiReduction .add [1] S1024 (k0_pay12 x (k0_pay8 c) (k0_pay9 c)) 0x00000000#32
      reduces_S1024x4096_S1024 (.inl rfl) rfl) shapeCasts_S1024_S1024x1 (ix2 j 0)
      = ∑ t : Fin 4096, if IsNearest (shortDist (row x t) (row c)) j then (1 : EReal) else 0 := by
    refine (shapeCast_apply _ _ _ (ix1 j) ?_).trans ?_
    · rw [Shape.rowMajor_val_one, Shape.rowMajor_val_two]
      show j.val = j.val * 1 + 0
      omega
    refine (Ideal.multiReduction_add_single _ _ _ _ _ _).trans ?_
    refine Finset.sum_congr rfl fun (t : Fin 4096) _ => ?_
    refine Eq.trans ?_ (pay12_apply x c j t)
    refine congrArg _ ?_
    funext a
    match a with
    | ⟨0, _⟩ => rfl
    | ⟨1, _⟩ => rfl
  rw [← e1]
  exact shapeCast_apply (t := S1024x1) (addf n (shapeCast S1024x1 (multiReduction .add [1] S1024
    (k0_pay12 x (k0_pay8 c) (k0_pay9 c)) 0x00000000#32 reduces_S1024x4096_S1024 (.inl rfl) rfl) shapeCasts_S1024_S1024x1))
    shapeCasts_S1024x1_S1024x1 (ix2 j 0) (ix2 j 0) rfl

/-- The keys and values of a block side by side. -/
def beside (x y : Vec Ideal S4096x128 .f32) : FVec Ideal S4096x256 .f32 :=
  concatenate S4096x256 1 [⟨S4096x128, k0_pay10 x⟩, ⟨S4096x128, shapeCast S4096x128 y shapeCasts_S4096x128_S4096x128⟩]
    concatenates_S4096x128_S4096x128_S4096x256_d1

/-- Its first 128 columns are the keys. -/
theorem beside_left (x y : Vec Ideal S4096x128 .f32) (t : Fin 4096) (l : Fin 128) :
    beside x y (ix2 t ⟨l.val, by omega⟩) = row x t l := by
  refine (concatenate_pair_apply_left (t := S4096x256) (1 : Fin 2) _ _ concatenates_S4096x128_S4096x128_S4096x256_d1 _ rfl (ix2 t l) ?_).trans (shapeCast_apply _ _ _ _ rfl)
  intro b
  match b with
  | ⟨0, _⟩ => rfl
  | ⟨1, _⟩ => rfl

/-- Its last 128 columns are the values. -/
theorem beside_right (x y : Vec Ideal S4096x128 .f32) (t : Fin 4096) (l : Fin 128) :
    beside x y (ix2 t ⟨128 + l.val, by omega⟩) = row y t l := by
  refine (concatenate_pair_apply_right (t := S4096x256) (1 : Fin 2) _ _ concatenates_S4096x128_S4096x128_S4096x256_d1 _ rfl rfl (ix2 t l) ?_ ?_).trans (shapeCast_apply _ _ _ _ rfl)
  · intro b hb
    match b, hb with
    | ⟨0, _⟩, _ => rfl
    | ⟨1, _⟩, hb => exact absurd rfl hb
  · show l.val + 128 = 128 + l.val
    omega

/-- The sums after a block: the ones before, plus the rows of the tokens the centroid is a nearest one of. -/
theorem pay14_apply (x y : Vec Ideal S4096x128 .f32) (c : Vec Ideal S1024x128 .f32) (s : Vec Ideal S1024x256 .f32)
    (j : Fin 1024) (l : Fin 256) :
    k0_pay14 x y (k0_pay8 c) (k0_pay9 c) s (ix2 j l)
      = s (ix2 j l) + ∑ t : Fin 4096, (if IsNearest (shortDist (row x t) (row c)) j then (1 : EReal) else 0) * beside x y (ix2 t l) := by
  have e1 : matmul dot_S1024x4096_S4096x256_S1024x256_1_0_0_1_n_n none (k0_pay12 x (k0_pay8 c) (k0_pay9 c)) (beside x y)
      (constant S1024x256 .f32 0x00000000#32) (ix2 j l)
      = ∑ t : Fin 4096, (if IsNearest (shortDist (row x t) (row c)) j then (1 : EReal) else 0) * beside x y (ix2 t l) := by
    simp only [matmul]
    rw [Ideal.matmul_constant_zero_apply, sum_contr _ 4096 rfl rfl]
    refine Finset.sum_congr rfl fun t _ => ?_
    rw [← pay12_apply]
    congr 1
    refine congrArg _ ?_
    funext a
    match a with
    | ⟨0, _⟩ => rfl
    | ⟨1, _⟩ => rfl
  rw [← e1]
  exact shapeCast_apply (t := S1024x256) (addf s (matmul dot_S1024x4096_S4096x256_S1024x256_1_0_0_1_n_n none
    (k0_pay12 x (k0_pay8 c) (k0_pay9 c)) (beside x y) (constant S1024x256 .f32 0x00000000#32)))
    shapeCasts_S1024x256_S1024x256 (ix2 j l) (ix2 j l) rfl

/-! ## The averaged centroids -/

/-- A column read along the rows of 128 entries. -/
theorem column_apply {α : Type} (n : S1024x1.Idx → α) (j : Fin 1024) (l : Fin 128) :
    broadcastTo S1024x128 n broadcasts_S1024x1_S1024x128 (ix2 j l) = n (ix2 j 0) := by
  refine broadcastTo_apply _ _ _ (ix2 j 0) ?_
  intro a
  match a with
  | ⟨0, _⟩ => rfl
  | ⟨1, _⟩ => rfl

/-- The updated key centroids, at an index. -/
theorem pay4_apply (s : Vec Ideal S1024x256 .f32) (n : Vec Ideal S1024x1 .f32) (c : Vec Ideal S1024x128 .f32) (j : Fin 1024) (l : Fin 128) :
    k0_pay4 s n c (ix2 j l) = moved (n (ix2 j 0)) (s (ix2 j ⟨l.val, by omega⟩)) (c (ix2 j l)) := by
  have e1 := column_apply (k0_pay2 n) j l
  have e2 : broadcastTo S1024x128 (shapeCast S1024x1 (k0_pay3 n) shapeCasts_S1024x1_S1024x1) broadcasts_S1024x1_S1024x128 (ix2 j l)
      = k0_pay3 n (ix2 j 0) := (column_apply _ j l).trans (shapeCast_apply _ _ _ _ rfl)
  have e3 : extractStridedSlice S1024x128 ![0, 0] s slices_S1024x256_o0_0_S1024x128 (ix2 j l) = s (ix2 j ⟨l.val, by omega⟩) := by
    refine extractStridedSlice_apply _ _ _ _ _ ?_
    intro a
    match a with
    | ⟨0, _⟩ => show j.val = 0 + j.val; omega
    | ⟨1, _⟩ => show l.val = 0 + l.val; omega
  unfold k0_pay4
  simp only [select_apply, addf_apply, mulf_apply, divf_apply, broadcast_apply]
  rw [e1, e2, e3]
  rfl

/-- The updated value centroids, at an index. -/
theorem pay5_apply (s : Vec Ideal S1024x256 .f32) (n : Vec Ideal S1024x1 .f32) (c : Vec Ideal S1024x128 .f32) (j : Fin 1024) (l : Fin 128) :
    k0_pay5 s n c (ix2 j l) = moved (n (ix2 j 0)) (s (ix2 j ⟨128 + l.val, by omega⟩)) (c (ix2 j l)) := by
  have e1 := column_apply (k0_pay2 n) j l
  have e2 : broadcastTo S1024x128 (shapeCast S1024x1 (k0_pay3 n) shapeCasts_S1024x1_S1024x1) broadcasts_S1024x1_S1024x128 (ix2 j l)
      = k0_pay3 n (ix2 j 0) := (column_apply _ j l).trans (shapeCast_apply _ _ _ _ rfl)
  have e3 : extractStridedSlice S1024x128 ![0, 128] s slices_S1024x256_o0_128_S1024x128 (ix2 j l) = s (ix2 j ⟨128 + l.val, by omega⟩) := by
    refine extractStridedSlice_apply _ _ _ _ _ ?_
    intro a
    match a with
    | ⟨0, _⟩ => show j.val = 0 + j.val; omega
    | ⟨1, _⟩ => rfl
  unfold k0_pay5
  simp only [select_apply, addf_apply, mulf_apply, divf_apply, broadcast_apply]
  rw [e1, e2, e3]
  rfl

end Cert.KernelIdeal.Payload

end
-- ==== Proof.Blocks.lean ====
/-
  The kernel's three results at the extended reals, read at an index: its blocks are the rows of the reshaped arrays,
  its running sums and counts add up to sums over every token, and its results follow from those.
-/
module

public import proofs.«01_k».proof.Proof.Carried
public import proofs.«01_k».proof.Proof.Payload
public import proofs.«01_k».proof.Proof.RefRun

@[expose] public section

noncomputable section

open Idealize.ShloMosaic Idealize.ShloMosaic.TcCoe Idealize.ShloMosaic.ValueIdx Idealize.ShloMosaic.StableHlo
open scoped Classical

namespace Cert.KernelIdeal.Blocks

open Cert.KernelIdeal Cert.KernelIdeal.Gen Cert.KernelIdeal.Value Cert.KernelIdeal.Carried Cert.KernelIdeal.Payload
open Cert.Proof.Nearest

/-! ## Sums over blocks -/

/-- Token `t` of block `s`. -/
def tok (s : Fin 32) (t : Fin 4096) : Fin 131072 := ⟨4096 * s.val + t.val, by have := s.isLt; have := t.isLt; omega⟩

/-- Summing block by block is summing over every token. -/
theorem sum_blocks (f : Fin 131072 → EReal) : ∑ s : Fin 32, ∑ t : Fin 4096, f (tok s t) = ∑ k, f k := by
  rw [← Fintype.sum_prod_type']
  refine Fintype.sum_equiv (finProdFinEquiv (m := 32) (n := 4096)) _ _ fun p => ?_
  refine congrArg f (Fin.ext ?_)
  show 4096 * p.1.val + p.2.val = p.2.val + 4096 * p.1.val
  omega

/-- What grows by a term at each of 32 points is, at the last, the sum of the terms. -/
theorem grown (a : (n : ℕ) → n < 32 → EReal) (g : Fin 32 → EReal) (h0 : a 0 (by decide) = g 0)
    (hs : ∀ n (h : n + 1 < 32), a (n + 1) h = a n (Nat.lt_of_succ_lt h) + g ⟨n + 1, h⟩) : a 31 (by decide) = ∑ s, g s := by
  have key : ∀ n (h : n < 32), a n h = ∑ s : Fin (n + 1), g ⟨s.val, lt_of_lt_of_le s.isLt h⟩ := by
    intro n
    induction n with
    | zero => intro h; rw [Fin.sum_univ_one]; exact h0
    | succ n ih => intro h; rw [hs, ih, Fin.sum_univ_castSucc (n := n + 1)]; rfl
  exact key 31 (by decide)

/-! ## The blocks -/

section Runs
variable {F : FTy → Type} [FloatOps F]
variable (m : (ℓ : Loc nD τ sig) → Buf (Elt F) ℓ) (c : Dev nD)

/-- The tokens' keys. -/
abbrev keys : Vec F S131072x128 .f32 := Cert.Proof.Ref.rows (m ((c : Thread nD τ).loc main_arg0))
/-- The tokens' values. -/
abbrev vals : Vec F S131072x128 .f32 := Cert.Proof.Ref.rows (m ((c : Thread nD τ).loc main_arg1))

/-- The launch's first operand holds the tokens' keys. -/
theorem V_v0 : (V m c main_v0 : Vec F S131072x128 .f32) = keys m c := by
  unfold V hostOps0; after_results_simp; rfl
/-- The launch's second operand holds the tokens' values. -/
theorem V_v1 : (V m c main_v1 : Vec F S131072x128 .f32) = vals m c := by
  unfold V hostOps0; after_results_simp; rfl

/-- The one grid coordinate of a point is the point's number. -/
theorem coords_val (t : Fin cfg0.N) : (grid0.coords t 0).val = t.val := by
  have h : t.val < 32 := lt_of_lt_of_eq t.isLt N_0
  have e : (grid0.coords t 0).val = t.val / 1 % 32 := Pipeline.Grid.coords_val t 0 (by decide) rfl
  omega

/-- A row of a block of keys is the row of the token there. -/
theorem keyB_apply (s : Fin 32) (t : Fin 4096) (l : Fin 128) :
    keyB m c ⟨s.val, lt_of_lt_of_eq s.isLt N_0.symm⟩ (ix2 t l) = keys m c (ix2 (tok s t) l) := by
  rw [← V_v0]
  show iblk m c 0 _ _ = _
  unfold iblk
  rw [View.read_apply]
  show V m c main_v0 _ = V m c main_v0 _
  congr 1
  funext a
  apply Fin.ext
  match a with
  | ⟨0, _⟩ =>
    show (BitVec.ofNat 32 (grid0.coords ⟨s.val, _⟩ 0).val).toNat * 4096 + 1 * t.val = 4096 * s.val + t.val
    have := s.isLt
    rw [coords_val]
    show (BitVec.ofNat 32 s.val).toNat * 4096 + 1 * t.val = 4096 * s.val + t.val
    rw [BitVec.toNat_ofNat, Nat.mod_eq_of_lt (by omega)]
    omega
  | ⟨1, _⟩ => show 0 * 128 + 1 * l.val = l.val; omega

/-- A row of a block of values is the row of the token there. -/
theorem valB_apply (s : Fin 32) (t : Fin 4096) (l : Fin 128) :
    valB m c ⟨s.val, lt_of_lt_of_eq s.isLt N_0.symm⟩ (ix2 t l) = vals m c (ix2 (tok s t) l) := by
  rw [← V_v1]
  show iblk m c 1 _ _ = _
  unfold iblk
  rw [View.read_apply]
  show V m c main_v1 _ = V m c main_v1 _
  congr 1
  funext a
  apply Fin.ext
  match a with
  | ⟨0, _⟩ =>
    show (BitVec.ofNat 32 (grid0.coords ⟨s.val, _⟩ 0).val).toNat * 4096 + 1 * t.val = 4096 * s.val + t.val
    have := s.isLt
    rw [coords_val]
    show (BitVec.ofNat 32 s.val).toNat * 4096 + 1 * t.val = 4096 * s.val + t.val
    rw [BitVec.toNat_ofNat, Nat.mod_eq_of_lt (by omega)]
    omega
  | ⟨1, _⟩ => show 0 * 128 + 1 * l.val = l.val; omega

/-- The running counts after the first point. -/
theorem cnts_zero (h : 0 < cfg0.N) :
    cnts m c 0 h = k0_pay1 (k0_pay12 (keyB m c ⟨0, h⟩) (k0_pay8 (keyC m c)) (k0_pay9 (keyC m c))) k0_pay7 := by
  rw [cnts]
/-- The running counts after a later point, from those before it. -/
theorem cnts_succ (n : ℕ) (h : n + 1 < cfg0.N) :
    cnts m c (n + 1) h = k0_pay1 (k0_pay12 (keyB m c ⟨n + 1, h⟩) (k0_pay8 (keyC m c)) (k0_pay9 (keyC m c)))
      (cnts m c n (Nat.lt_of_succ_lt h)) := by
  rw [cnts]
/-- The running sums after the first point. -/
theorem sums_zero (h : 0 < cfg0.N) :
    sums m c 0 h = k0_pay14 (keyB m c ⟨0, h⟩) (valB m c ⟨0, h⟩) (k0_pay8 (keyC m c)) (k0_pay9 (keyC m c)) k0_pay6 := by
  rw [sums]
/-- The running sums after a later point, from those before it. -/
theorem sums_succ (n : ℕ) (h : n + 1 < cfg0.N) :
    sums m c (n + 1) h = k0_pay14 (keyB m c ⟨n + 1, h⟩) (valB m c ⟨n + 1, h⟩) (k0_pay8 (keyC m c)) (k0_pay9 (keyC m c))
      (sums m c n (Nat.lt_of_succ_lt h)) := by
  rw [sums]

end Runs

/-! ## The totals and the results -/

variable (m : (ℓ : Loc nD τ sig) → Buf (Elt Ideal) ℓ) (c : Dev nD)

/-- The key centroids. -/
abbrev cents : Vec Ideal S1024x128 .f32 := m ((c : Thread nD τ).loc main_arg2)

/-- Whether cluster `j` is among the nearest of token `t`, as the kernel measures it. -/
def Near (t : Fin 131072) (j : Fin 1024) : Prop := IsNearest (shortDist (row (keys m c) t) (row (cents m c))) j

/-- A row of a block of keys, as a whole. -/
theorem key_row (s : Fin 32) (t : Fin 4096) :
    row (keyB m c ⟨s.val, lt_of_lt_of_eq s.isLt N_0.symm⟩) t = row (keys m c) (tok s t) :=
  funext fun l => keyB_apply m c s t l

/-- A row of a block of values, as a whole. -/
theorem val_row (s : Fin 32) (t : Fin 4096) :
    row (valB m c ⟨s.val, lt_of_lt_of_eq s.isLt N_0.symm⟩) t = row (vals m c) (tok s t) :=
  funext fun l => valB_apply m c s t l

/-- A cluster is nearest to a row of a block exactly where it is nearest to the token there. -/
theorem near_block (s : Fin 32) (t : Fin 4096) (j : Fin 1024) :
    IsNearest (shortDist (row (keyB m c ⟨s.val, lt_of_lt_of_eq s.isLt N_0.symm⟩) t) (row (keyC m c))) j ↔ Near m c (tok s t) j := by
  rw [key_row]
  show IsNearest (shortDist _ (row (V m c main_arg2))) j ↔ _
  rw [V_main_arg2]
  rfl

/-- The count of a cluster: the tokens it is nearest to. -/
theorem cnts_total (j : Fin 1024) :
    cnts m c 31 lt31 (ix2 j 0) = ∑ t : Fin 131072, if Near m c t j then (1 : EReal) else 0 := by
  rw [← sum_blocks]
  refine grown (fun n h => cnts m c n (lt_of_lt_of_eq h N_0.symm) (ix2 j 0))
    (fun s => ∑ t : Fin 4096, if Near m c (tok s t) j then (1 : EReal) else 0) ?_ ?_
  · refine (congrFun (cnts_zero m c _) _).trans ((pay1_apply _ _ _ _).trans ?_)
    have e : (k0_pay7 : FVec Ideal S1024x1 .f32) (ix2 j 0) = 0 := Ideal.ofBits_zero_f32
    rw [e, zero_add]
    exact Finset.sum_congr rfl fun t _ => if_congr (near_block m c 0 t j) rfl rfl
  · intro n h
    refine (congrFun (cnts_succ m c n _) _).trans ((pay1_apply _ _ _ _).trans ?_)
    refine congrArg (cnts m c n _ (ix2 j 0) + ·) ?_
    exact Finset.sum_congr rfl fun t _ => if_congr (near_block m c ⟨n + 1, h⟩ t j) rfl rfl

/-- The sum of a cluster's column, when the columns read `x`'s entries. -/
theorem sums_total (j : Fin 1024) (l : Fin 256) (x : Fin 131072 → EReal)
    (hx : ∀ (s : Fin 32) (t : Fin 4096), beside (keyB m c ⟨s.val, lt_of_lt_of_eq s.isLt N_0.symm⟩)
      (valB m c ⟨s.val, lt_of_lt_of_eq s.isLt N_0.symm⟩) (ix2 t l) = x (tok s t)) :
    sums m c 31 lt31 (ix2 j l) = ∑ t : Fin 131072, if Near m c t j then x t else 0 := by
  rw [← sum_blocks]
  have step : ∀ (s : Fin 32) (t : Fin 4096),
      (if IsNearest (shortDist (row (keyB m c ⟨s.val, lt_of_lt_of_eq s.isLt N_0.symm⟩) t) (row (keyC m c))) j then (1 : EReal) else 0)
        * beside (keyB m c ⟨s.val, lt_of_lt_of_eq s.isLt N_0.symm⟩) (valB m c ⟨s.val, lt_of_lt_of_eq s.isLt N_0.symm⟩) (ix2 t l)
      = if Near m c (tok s t) j then x (tok s t) else 0 := by
    intro s t
    rw [hx, ite_mul, one_mul, zero_mul]
    exact if_congr (near_block m c s t j) rfl rfl
  refine grown (fun n h => sums m c n (lt_of_lt_of_eq h N_0.symm) (ix2 j l))
    (fun s => ∑ t : Fin 4096, if Near m c (tok s t) j then x (tok s t) else 0) ?_ ?_
  · refine (congrFun (sums_zero m c _) _).trans ((pay14_apply _ _ _ _ _ _).trans ?_)
    have e : (k0_pay6 : FVec Ideal S1024x256 .f32) (ix2 j l) = 0 := Ideal.ofBits_zero_f32
    rw [e, zero_add]
    exact Finset.sum_congr rfl fun t _ => step 0 t
  · intro n h
    refine (congrFun (sums_succ m c n _) _).trans ((pay14_apply _ _ _ _ _ _).trans ?_)
    refine congrArg (sums m c n _ (ix2 j l) + ·) ?_
    exact Finset.sum_congr rfl fun t _ => step ⟨n + 1, h⟩ t

/-- The first result: the first nearest cluster of the token. -/
theorem G4_apply (b : Fin 32) (t : Fin 4096) :
    G4 m c (ix3 b (0 : Fin 1) t) = BitVec.ofNat 32 (first (shortDist (row (keys m c) (tok b t)) (row (cents m c)))).val := by
  rw [G4_eq]
  refine (pay13_apply _ _ _).trans ?_
  rw [key_row]
  show BitVec.ofNat 32 (first (shortDist _ (row (V m c main_arg2)))).val = _
  rw [V_main_arg2]

/-- The second result: the key centroids moved by the sums and counts of the tokens they are nearest to. -/
theorem G5_apply (j : Fin 1024) (l : Fin 128) :
    G5 m c (ix2 j l) = moved (∑ t : Fin 131072, if Near m c t j then (1 : EReal) else 0)
      (∑ t : Fin 131072, if Near m c t j then row (keys m c) t l else 0) (m ((c : Thread nD τ).loc main_arg2) (ix2 j l)) := by
  rw [G5_eq]
  refine (pay4_apply _ _ _ _ _).trans ?_
  rw [cnts_total, sums_total m c j _ (fun t => row (keys m c) t l) fun s t => (beside_left _ _ t l).trans (congrFun (key_row m c s t) l)]
  show moved _ _ (V m c main_arg2 (ix2 j l)) = _
  rw [V_main_arg2]

/-- The third result: the value centroids, likewise. -/
theorem G6_apply (j : Fin 1024) (l : Fin 128) :
    G6 m c (ix2 j l) = moved (∑ t : Fin 131072, if Near m c t j then (1 : EReal) else 0)
      (∑ t : Fin 131072, if Near m c t j then row (vals m c) t l else 0) (m ((c : Thread nD τ).loc main_arg3) (ix2 j l)) := by
  rw [G6_eq]
  refine (pay5_apply _ _ _ _ _).trans ?_
  rw [cnts_total, sums_total m c j _ (fun t => row (vals m c) t l) fun s t => (beside_right _ _ t l).trans (congrFun (val_row m c s t) l)]
  show moved _ _ (V m c main_arg3 (ix2 j l)) = _
  rw [V_main_arg3]

end Cert.KernelIdeal.Blocks

end
-- ==== Proof.Equation.lean ====
/-
  The kernel's results are the reference's: the first where keys and key centroids are real, a row of the second and
  third where the row's cluster is nearest to the tokens placed with it only.
-/
module

public import proofs.«01_k».proof.Proof.Blocks
public import proofs.«01_k».proof.Proof.RefDist
public import proofs.«01_k».proof.Proof.RefPlace
public import proofs.«01_k».proof.Proof.RefScatter

@[expose] public section

noncomputable section

open Idealize.ShloMosaic Idealize.ShloMosaic.TcCoe Idealize.ShloMosaic.ValueIdx
open scoped Classical

namespace Cert.Proof.Equation

open Cert.KernelIdeal Cert.KernelIdeal.Gen Cert.KernelIdeal.Value Cert.KernelIdeal.Blocks
open Cert.Proof.Nearest

/-- A token's place among the reference's distances: its first nearest centroid. -/
theorem place_dist (x : Vec Ideal S131072x128 .f32) (c : Vec Ideal S1024x128 .f32) (t : Fin 131072) :
    Ref.place (Ref.dist x c) (ix1 t) = BitVec.ofNat 32 (first (fullDist (row x t) (row c))).val := by
  rw [Ref.place_apply]
  exact congrArg (fun f : Fin 1024 → EReal => BitVec.ofNat 32 (first f).val) (funext fun k => Ref.dist_apply x c t k)

/-- The places, as the reference shapes them. -/
theorem places_apply (p : Vec Ideal Cert.ReferenceIdeal.S131072 .i32) (b : Fin 32) (t : Fin 4096) :
    shapeCast Cert.ReferenceIdeal.S32x1x4096 p Cert.ReferenceIdeal.Gen.shapeCasts_S131072_S32x1x4096 (ix3 b 0 t) = p (ix1 (tok b t)) := by
  refine shapeCast_apply (t := Cert.ReferenceIdeal.S32x1x4096) p _ (ix3 b 0 t) (ix1 (tok b t)) ?_
  rw [Shape.rowMajor_val_one, Shape.rowMajor_val_three]
  show 4096 * b.val + t.val = (b.val * 1 + 0) * 4096 + t.val
  omega

variable (m : (ℓ : Loc nD τ sig) → Buf (Elt Ideal) ℓ) (c : Dev nD)

/-- The reference's distances, of the kernel's arguments. -/
abbrev dists : Vec Ideal Cert.ReferenceIdeal.S131072x1024 .f32 := Ref.dist (keys m c) (cents m c)

/-- The keys and the key centroids are real. -/
abbrev AllReal : Prop :=
  (∀ t l, ∃ r : ℝ, row (keys m c) t l = (r : EReal)) ∧ (∀ j l, ∃ r : ℝ, row (cents m c) j l = (r : EReal))

/-- Cluster `j` is nearest to the tokens placed with it only. -/
abbrev Untied (j : Fin 1024) : Prop :=
  ∀ t, IsNearest (fullDist (row (keys m c) t) (row (cents m c))) j ↔ first (fullDist (row (keys m c) t) (row (cents m c))) = j

/-- The kernel's nearest centroids are the reference's. -/
theorem near_iff (hr : AllReal m c) (t : Fin 131072) (j : Fin 1024) :
    IsNearest (shortDist (row (keys m c) t) (row (cents m c))) j ↔ IsNearest (fullDist (row (keys m c) t) (row (cents m c))) j :=
  nearest_iff _ _ (hr.1 t) hr.2 j

/-- The first results agree. -/
theorem places_eq (hr : AllReal m c) :
    G4 m c = shapeCast Cert.ReferenceIdeal.S32x1x4096 (Ref.place (dists m c)) Cert.ReferenceIdeal.Gen.shapeCasts_S131072_S32x1x4096 := by
  funext i
  have hi : i = ix3 (i 0) (0 : Fin 1) (i 2) := (eq_ix3 i).trans (congrArg (fun z => ix3 (i 0) z (i 2)) (Subsingleton.elim (α := Fin 1) (i 1) 0))
  rw [hi]
  generalize (i 0 : Fin 32) = b
  generalize (i 2 : Fin 4096) = t
  refine (G4_apply m c b t).trans (Eq.trans ?_ (places_apply _ b t).symm)
  rw [place_dist]
  exact congrArg (fun k : Fin 1024 => BitVec.ofNat 32 k.val) (first_congr fun j => near_iff m c hr (tok b t) j)

/-- The counts of an untied cluster agree. -/
theorem counts_eq (hr : AllReal m c) (j : Fin 1024) (hj : Untied m c j) :
    (∑ t : Fin 131072, if Near m c t j then (1 : EReal) else 0) = Ref.counts (Ref.place (dists m c)) (ix1 j) := by
  rw [Ref.counts_apply _ (fun t => first (fullDist (row (keys m c) t) (row (cents m c)))) (place_dist _ _)]
  exact Finset.sum_congr rfl fun t _ => if_congr ((near_iff m c hr t j).trans (hj t)) rfl rfl

/-- The sums of an untied cluster agree. -/
theorem sums_eq (hr : AllReal m c) (j : Fin 1024) (hj : Untied m c j) (x : Vec Ideal S131072x128 .f32) (l : Fin 128) :
    (∑ t : Fin 131072, if Near m c t j then row x t l else 0) = Ref.sums (Ref.place (dists m c)) x (ix2 j l) := by
  rw [Ref.sums_apply _ (fun t => first (fullDist (row (keys m c) t) (row (cents m c)))) (place_dist _ _)]
  exact Finset.sum_congr rfl fun t _ => if_congr ((near_iff m c hr t j).trans (hj t)) rfl rfl

/-- The second results agree at an untied cluster. -/
theorem keys_eq (hr : AllReal m c) (j : Fin 1024) (hj : Untied m c j) (l : Fin 128) :
    G5 m c (ix2 j l) = Ref.updated (Ref.counts (Ref.place (dists m c))) (Ref.sums (Ref.place (dists m c)) (keys m c))
      (m ((c : Thread nD τ).loc main_arg2)) (ix2 j l) := by
  refine (G5_apply m c j l).trans (Eq.trans ?_ (Ref.updated_apply _ _ _ j l).symm)
  rw [counts_eq m c hr j hj, sums_eq m c hr j hj]

/-- The third results agree at an untied cluster. -/
theorem vals_eq (hr : AllReal m c) (j : Fin 1024) (hj : Untied m c j) (l : Fin 128) :
    G6 m c (ix2 j l) = Ref.updated (Ref.counts (Ref.place (dists m c))) (Ref.sums (Ref.place (dists m c)) (vals m c))
      (m ((c : Thread nD τ).loc main_arg3)) (ix2 j l) := by
  refine (G6_apply m c j l).trans (Eq.trans ?_ (Ref.updated_apply _ _ _ j l).symm)
  rw [counts_eq m c hr j hj, sums_eq m c hr j hj]

end Cert.Proof.Equation

end
-- ==== Proof.lean ====
/-
  The proof of `Cert.Claim`: the generated frames of the kernel and of its idealization, the run of the reference, and
  the equality of the results, everywhere under `one_nearest` and where the mask `untied` is set under `finite`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Pre_one_nearest
public import proofs.«01_k».proof.Proof.Gen.Pre_finite
public import proofs.«01_k».proof.Proof.Gen.On_untied
public import proofs.«01_k».proof.Proof.Gen.ReferenceIdeal
public import proofs.«01_k».proof.Proof.RefRun
public import proofs.«01_k».proof.Proof.Predicates
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.ValueIdx Idealize.SL.Sem

/-- The reference runs, its arguments end unchanged, and it has no semaphore, so every counter is zero. -/
theorem frame_reference : Cert.quiescent_ReferenceIdeal := fun m ρ _ =>
  (θ_run _ _ _).mono (fun r h => ⟨fun c => (h c).2, sem_eq_zero_of_no_sems rfl r.2⟩) (Ref.run_main m ρ)

/-- Under `one_nearest` the kernel's results are the reference's, element by element. -/
theorem equal_one_nearest : Cert.algebraic_KernelIdeal_ReferenceIdeal_pre_one_nearest := by
  intro m g m' g' hp hm
  refine ⟨Cert.KernelIdeal.Value.G4 m, Cert.KernelIdeal.Value.G5 m, Cert.KernelIdeal.Value.G6 m, Cert.KernelIdeal.Value.run m g,
    (θ_run _ _ _).mono (fun r h c => ?_) (Ref.run_main m' g')⟩
  obtain ⟨⟨h0, h1, h2⟩, hk⟩ := h c
  obtain ⟨e0, e1, e2, e3⟩ := hm c
  obtain ⟨hx, hc, hu⟩ := Predicates.one_nearest_reads _ _ _ _ (hp c).1 (hp c).2.1 (hp c).2.2
  rw [e0, e2] at h0
  rw [e0, e2] at h1
  rw [e0, e1, e2, e3] at h2
  refine ⟨h0.trans (Equation.places_eq m c ⟨hx, hc⟩).symm, h1.trans ?_, h2.trans ?_, hk⟩
  · funext i
    rw [eq_ix2 i]
    exact (Equation.keys_eq m c ⟨hx, hc⟩ (i 0) (fun t => hu t (i 0)) (i 1)).symm
  · funext i
    rw [eq_ix2 i]
    exact (Equation.vals_eq m c ⟨hx, hc⟩ (i 0) (fun t => hu t (i 0)) (i 1)).symm

/-- Under `finite` the kernel's results are the reference's where the mask `untied` is set: everywhere in the first
    result, in the rows of the untied clusters in the other two. -/
theorem equal_untied : Cert.algebraic_KernelIdeal_ReferenceIdeal_on_untied_pre_finite := by
  intro m g m' g' hp hm
  refine ⟨Cert.KernelIdeal.Value.G4 m, Cert.KernelIdeal.Value.G5 m, Cert.KernelIdeal.Value.G6 m,
    (θ_run _ _ _).mono (fun r h c => ?_) (Cert.KernelIdeal.Value.run m g),
    (θ_run _ _ _).mono (fun r h c => ?_) (Ref.run_main m' g')⟩
  · obtain ⟨h0, h1, h2, hk⟩ := h c
    exact ⟨fun i _ => congrFun h0 i, fun i _ => congrFun h1 i, fun i _ => congrFun h2 i, hk⟩
  · obtain ⟨⟨h0, h1, h2⟩, hk⟩ := h c
    obtain ⟨e0, e1, e2, e3⟩ := hm c
    have hr := Predicates.finite_reads _ _ _ _ (hp c).1 (hp c).2
    rw [e0, e2] at h0
    rw [e0, e2] at h1
    rw [e0, e1, e2, e3] at h2
    refine ⟨fun i _ => congrFun (h0.trans (Equation.places_eq m c hr).symm) i, fun i hi => ?_, fun i hi => ?_, hk⟩
    · refine (congrFun h1 i).trans ?_
      rw [eq_ix2 i] at hi ⊢
      have hw := Predicates.mask_keys _ _ _ _ (i 0) (i 1) hi
      exact (Equation.keys_eq m c hr (i 0) (Predicates.untied_reads _ _ _ rfl (i 0) hw) (i 1)).symm
    · refine (congrFun h2 i).trans ?_
      rw [eq_ix2 i] at hi ⊢
      have hw := Predicates.mask_vals _ _ _ _ (i 0) (i 1) hi
      exact (Equation.vals_eq m c hr (i 0) (Predicates.untied_reads _ _ _ rfl (i 0) hw) (i 1)).symm

/-- Everything claimed: the frames (a precondition only weakens one), the idealization, and the two equalities. -/
theorem claim : Cert.Claim := ⟨Cert.Kernel.Gen.facts, Cert.KernelIdeal.Gen.facts, Cert.ReferenceIdeal.Gen.facts,
  Cert.Pre_one_nearest.Gen.facts, Cert.Pre_finite.Gen.facts, Cert.On_untied.Gen.facts,
  fun m ρ _ => Cert.Kernel.Gen.frame m ρ, fun m ρ _ => Cert.KernelIdeal.Gen.frame m ρ,
  fun m ρ _ => Cert.KernelIdeal.Gen.frame m ρ, fun m ρ _ => Cert.KernelIdeal.Gen.frame m ρ,
  frame_reference, fun m ρ _ => frame_reference m ρ trivial, fun m ρ _ => frame_reference m ρ trivial, trivial,
  equal_one_nearest, equal_untied⟩

end Cert.Proof

end
